-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_no_tie [hPre_no_tie : Cert.Pre_no_tie.Facts] (m : (ℓ : Loc Cert.KernelIdeal.nD Cert.KernelIdeal.τ Cert.KernelIdeal.sig) → Buf (Elt Ideal) ℓ) : Prop :=
  ∀ c : Dev Cert.KernelIdeal.nD,
    (Cert.Pre_no_tie.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_no_tie [hPre_no_tie : Cert.Pre_no_tie.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_no_tie.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_no_tie [hKernelIdeal : Cert.KernelIdeal.Facts] [hPre_no_tie : Cert.Pre_no_tie.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_no_tie m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_no_tie [hReferenceIdeal : Cert.ReferenceIdeal.Facts] [hPre_no_tie : Cert.Pre_no_tie.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_no_tie m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_no_tie [hKernelIdeal : Cert.KernelIdeal.Facts] [hReferenceIdeal : Cert.ReferenceIdeal.Facts] [hPre_no_tie : Cert.Pre_no_tie.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_no_tie m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v7)) (v1 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_v8) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_v32) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_no_tie : Cert.Pre_no_tie.Facts),
    quiescent_Kernel (hKernel := hKernel)
    ∧ quiescent_KernelIdeal (hKernelIdeal := hKernelIdeal)
    ∧ quiescent_KernelIdeal_pre_no_tie (hKernelIdeal := hKernelIdeal) (hPre_no_tie := hPre_no_tie)
    ∧ quiescent_ReferenceIdeal (hReferenceIdeal := hReferenceIdeal)
    ∧ quiescent_ReferenceIdeal_pre_no_tie (hReferenceIdeal := hReferenceIdeal) (hPre_no_tie := hPre_no_tie)
    ∧ preserves_Kernel_KernelIdeal
    ∧ algebraic_KernelIdeal_ReferenceIdeal_pre_no_tie (hKernelIdeal := hKernelIdeal) (hReferenceIdeal := hReferenceIdeal) (hPre_no_tie := hPre_no_tie)
-- ==== Pre_no_tie.lean ====
abbrev S16x4096x80 : Shape := ⟨3, ![16, 4096, 80]⟩
abbrev S1024x80 : Shape := ⟨2, ![1024, 80]⟩
abbrev S80x1024 : Shape := ⟨2, ![80, 1024]⟩
abbrev S_ : Shape := ⟨0, ![]⟩
abbrev S1024 : Shape := ⟨1, ![1024]⟩
abbrev S1x1024 : Shape := ⟨2, ![1, 1024]⟩
abbrev S65536x80 : Shape := ⟨2, ![65536, 80]⟩
abbrev S65536 : Shape := ⟨1, ![65536]⟩
abbrev S65536x1 : Shape := ⟨2, ![65536, 1]⟩
abbrev S65536x1024 : Shape := ⟨2, ![65536, 1024]⟩

class Facts : Prop where
  transposes_S1024x80_S80x1024_1_0 : S1024x80.Transposes [1, 0] S80x1024
  reducesTo_S80x1024_S1024_d0 : S80x1024.ReducesTo [0] S1024
  h_S_ : 0 < S_.numel
  bcast_S1024_S1x1024_1 : S1024.BroadcastsInDim S1x1024 (![1] : Fin 1 → Fin S1x1024.rank)
  bcast_S1x1024_S80x1024_0_1 : S1x1024.BroadcastsInDim S80x1024 (![0, 1] : Fin 2 → Fin S80x1024.rank)
  shapeCasts_S16x4096x80_S65536x80 : S16x4096x80.ShapeCasts S65536x80
  reducesTo_S65536x80_S65536_d1 : S65536x80.ReducesTo [1] S65536
  bcast_S65536_S65536x1_0 : S65536.BroadcastsInDim S65536x1 (![0] : Fin 1 → Fin S65536x1.rank)
  bcast_S_S65536x80 : S_.BroadcastsInDim S65536x80 (![] : Fin 0 → Fin S65536x80.rank)
  bcast_S65536x1_S65536x1024_0_1 : S65536x1.BroadcastsInDim S65536x1024 (![0, 1] : Fin 2 → Fin S65536x1024.rank)
  bcast_S1x1024_S65536x1024_0_1 : S1x1024.BroadcastsInDim S65536x1024 (![0, 1] : Fin 2 → Fin S65536x1024.rank)
  reducesTo_S65536x1024_S65536_d1 : S65536x1024.ReducesTo [1] S65536
  natLt_1_32 : 1 < 32
  bcast_S_S65536x1024 : S_.BroadcastsInDim S65536x1024 (![] : Fin 0 → Fin S65536x1024.rank)
  reducesTo_S65536x1024_S_d0_1 : S65536x1024.ReducesTo [0, 1] S_
  bcast_S_S65536 : S_.BroadcastsInDim S65536 (![] : Fin 0 → Fin S65536.rank)
  reducesTo_S65536_S_d0 : S65536.ReducesTo [0] S_
  dot_S65536x80_S80x1024_S65536x1024_1_0_0_1_n_n_wf : DotDims.WF S65536x80 S80x1024 S65536x1024 [1] [0] [0] [1] [] []

variable [Facts]

def dot_S65536x80_S80x1024_S65536x1024_1_0_0_1_n_n : DotDims S65536x80 S80x1024 S65536x1024 where
  lhsContracting := [1]
  rhsContracting := [0]
  lhsNonContracting := [0]
  rhsNonContracting := [1]
  lhsBatch := []
  rhsBatch := []
  wf := dot_S65536x80_S80x1024_S65536x1024_1_0_0_1_n_n_wf
def fn_norm {F : FTy → Type} [FloatOps F] (arg0 : FVec F S80x1024 .f32) : FVec F S1024 .f32 :=
  let v0 : FVec F S80x1024 .f32 := mulf arg0 arg0
  let cst : FVec F S_ .f32 := constant S_ .f32 0x00000000#32
  let v1 : FVec F S1024 .f32 := (fun x v => Host.reduceAdd x v reducesTo_S80x1024_S1024_d0 h_S_) v0 cst
  let v2 : FVec F S1024 .f32 := Host.sqrt v1
  v2

def fn_part1 {F : FTy → Type} [FloatOps F] (main_v18 : FVec F S65536x1024 .f32) (main_v19 : FVec F S65536 .f32) : IVec S_ 1 :=
  let main_v20 : FVec F S65536x1 .f32 := broadcastInDim S65536x1 ![0] bcast_S65536_S65536x1_0 main_v19
  let main_v21 : FVec F S65536x1024 .f32 := broadcastInDim S65536x1024 ![0, 1] bcast_S65536x1_S65536x1024_0_1 main_v20
  let main_v22 : IVec S65536x1024 1 := cmpf .oeq main_v18 main_v21
  let main_v23 : IVec S65536x1024 32 := (extui 32 · natLt_1_32) main_v22
  let main_c : IVec S_ 32 := constantI S_ 32 0#32
  let main_v24 : IVec S65536 32 := (fun x v => Host.reduce IntOp.addi x v reducesTo_S65536x1024_S65536_d1 h_S_) main_v23 main_c
  let main_v25 : FVec F S65536x1024 .f32 := Host.absf main_v18
  let main_cst_3 : FVec F S_ .f32 := constant S_ .f32 0x7F800000#32
  let main_v26 : FVec F S65536x1024 .f32 := broadcastInDim S65536x1024 ![] bcast_S_S65536x1024 main_cst_3
  let main_v27 : IVec S65536x1024 1 := cmpf .olt main_v25 main_v26
  let main_c_4 : IVec S_ 1 := constantI S_ 1 1#1
  let main_v28 : IVec S_ 1 := (fun x v => Host.reduce IntOp.andi x v reducesTo_S65536x1024_S_d0_1 h_S_) main_v27 main_c_4
  let main_c_5 : IVec S_ 32 := constantI S_ 32 1#32
  let main_v29 : IVec S65536 32 := broadcastInDim S65536 ![] bcast_S_S65536 main_c_5
  let main_v30 : IVec S65536 1 := cmpi .eq main_v24 main_v29
  let main_c_6 : IVec S_ 1 := constantI S_ 1 1#1
  let main_v31 : IVec S_ 1 := (fun x v => Host.reduce IntOp.andi x v reducesTo_S65536_S_d0 h_S_) main_v30 main_c_6
  let main_v32 : IVec S_ 1 := andi main_v28 main_v31
  main_v32

def fn {F : FTy → Type} [FloatOps F] (main_arg0 : FVec F S16x4096x80 .f32) (main_arg1 : FVec F S1024x80 .f32) : IVec S_ 1 :=
  let main_v0 : FVec F S80x1024 .f32 := (transpose S80x1024 [1, 0] · transposes_S1024x80_S80x1024_1_0) main_arg1
  let main_v1 : FVec F S1024 .f32 := fn_norm (F := F) main_v0
  let main_v2 : FVec F S1x1024 .f32 := broadcastInDim S1x1024 ![1] bcast_S1024_S1x1024_1 main_v1
  let main_v3 : FVec F S80x1024 .f32 := broadcastInDim S80x1024 ![0, 1] bcast_S1x1024_S80x1024_0_1 main_v2
  let main_v4 : FVec F S80x1024 .f32 := Host.divf main_v0 main_v3
  let main_v5 : FVec F S65536x80 .f32 := shapeCast S65536x80 main_arg0 shapeCasts_S16x4096x80_S65536x80
  let main_v6 : FVec F S65536x80 .f32 := mulf main_v5 main_v5
  let main_cst : FVec F S_ .f32 := constant S_ .f32 0x00000000#32
  let main_v7 : FVec F S65536 .f32 := (fun x v => Host.reduceAdd x v reducesTo_S65536x80_S65536_d1 h_S_) main_v6 main_cst
  let main_v8 : FVec F S65536x1 .f32 := broadcastInDim S65536x1 ![0] bcast_S65536_S65536x1_0 main_v7
  let main_cst_0 : FVec F S_ .f32 := constant S_ .f32 0x40000000#32
  let main_v9 : FVec F S65536x80 .f32 := broadcastInDim S65536x80 ![] bcast_S_S65536x80 main_cst_0
  let main_v10 : FVec F S65536x80 .f32 := mulf main_v9 main_v5
  let main_v11 : FVec F S65536x1024 .f32 := (fun l r => Host.dotGeneral dot_S65536x80_S80x1024_S65536x1024_1_0_0_1_n_n none l r) main_v10 main_v4
  let main_v12 : FVec F S65536x1024 .f32 := broadcastInDim S65536x1024 ![0, 1] bcast_S65536x1_S65536x1024_0_1 main_v8
  let main_v13 : FVec F S65536x1024 .f32 := subf main_v12 main_v11
  let main_v14 : FVec F S80x1024 .f32 := mulf main_v4 main_v4
  let main_cst_1 : FVec F S_ .f32 := constant S_ .f32 0x00000000#32
  let main_v15 : FVec F S1024 .f32 := (fun x v => Host.reduceAdd x v reducesTo_S80x1024_S1024_d0 h_S_) main_v14 main_cst_1
  let main_v16 : FVec F S1x1024 .f32 := broadcastInDim S1x1024 ![1] bcast_S1024_S1x1024_1 main_v15
  let main_v17 : FVec F S65536x1024 .f32 := broadcastInDim S65536x1024 ![0, 1] bcast_S1x1024_S65536x1024_0_1 main_v16
  let main_v18 : FVec F S65536x1024 .f32 := addf main_v13 main_v17
  let main_cst_2 : FVec F S_ .f32 := constant S_ .f32 0x7F800000#32
  let main_v19 : FVec F S65536 .f32 := (fun x v => Host.reduce FloatOps.minimumf x v reducesTo_S65536x1024_S65536_d1 h_S_) main_v18 main_cst_2
  fn_part1 (F := F) main_v18 main_v19
-- ==== Kernel.lean ====
abbrev S16x4096x80 : Shape := ⟨3, ![16, 4096, 80]⟩
abbrev S1024x80 : Shape := ⟨2, ![1024, 80]⟩
abbrev S16x80x4096 : Shape := ⟨3, ![16, 80, 4096]⟩
abbrev S80x1024 : Shape := ⟨2, ![80, 1024]⟩
abbrev S_ : Shape := ⟨0, ![]⟩
abbrev S1024x1 : Shape := ⟨2, ![1024, 1]⟩
abbrev S1024x81 : Shape := ⟨2, ![1024, 81]⟩
abbrev S81x1024 : Shape := ⟨2, ![81, 1024]⟩
abbrev S16x1x1 : Shape := ⟨3, ![16, 1, 1]⟩
abbrev S1x80x4096 : Shape := ⟨3, ![1, 80, 4096]⟩
abbrev S1x1x1 : Shape := ⟨3, ![1, 1, 1]⟩
abbrev S1024x4096 : Shape := ⟨2, ![1024, 4096]⟩
abbrev S80x4096 : Shape := ⟨2, ![80, 4096]⟩
abbrev S1024 : Shape := ⟨1, ![1024]⟩
abbrev S1x1024 : Shape := ⟨2, ![1, 1024]⟩
abbrev S4096 : Shape := ⟨1, ![4096]⟩
abbrev S1x4096 : Shape := ⟨2, ![1, 4096]⟩
abbrev S80x256 : Shape := ⟨2, ![80, 256]⟩
abbrev S256x4096 : Shape := ⟨2, ![256, 4096]⟩
abbrev S256x1 : Shape := ⟨2, ![256, 1]⟩
abbrev S81x256 : Shape := ⟨2, ![81, 256]⟩
abbrev S81x4096 : Shape := ⟨2, ![81, 4096]⟩
abbrev S1 : Shape := ⟨1, ![1]⟩

abbrev nBuf : Space → Nat
  | .hbm => 14
  | .vmem => 7
  | .smem => 2
  | _ => 0

abbrev bufTy : (tb : Table) → Fin (tcTables nBuf tb) → BufTy
  | .hbm, ⟨0, _⟩ => ⟨S16x4096x80, .f32⟩
  | .hbm, ⟨1, _⟩ => ⟨S1024x80, .f32⟩
  | .hbm, ⟨2, _⟩ => ⟨S16x80x4096, .f32⟩
  | .hbm, ⟨3, _⟩ => ⟨S80x1024, .f32⟩
  | .hbm, ⟨4, _⟩ => ⟨S_, .f32⟩
  | .hbm, ⟨5, _⟩ => ⟨S1024x1, .f32⟩
  | .hbm, ⟨6, _⟩ => ⟨S1024x81, .f32⟩
  | .hbm, ⟨7, _⟩ => ⟨S1024x81, .bf16⟩
  | .hbm, ⟨8, _⟩ => ⟨S81x1024, .bf16⟩
  | .hbm, ⟨9, _⟩ => ⟨S16x80x4096, .f32⟩
  | .hbm, ⟨10, _⟩ => ⟨S16x1x1, .f32⟩
  | .hbm, ⟨11, _⟩ => ⟨S16x4096x80, .f32⟩
  | .hbm, ⟨12, _⟩ => ⟨S_, .f32⟩
  | .hbm, ⟨13, _⟩ => ⟨S_, .f32⟩
  | .local _ .vmem, ⟨0, _⟩ => ⟨S1x80x4096, .f32⟩
  | .local _ .vmem, ⟨1, _⟩ => ⟨S1x80x4096, .f32⟩
  | .local _ .vmem, ⟨2, _⟩ => ⟨S80x1024, .f32⟩
  | .local _ .vmem, ⟨3, _⟩ => ⟨S81x1024, .bf16⟩
  | .local _ .vmem, ⟨4, _⟩ => ⟨S1x80x4096, .f32⟩
  | .local _ .vmem, ⟨5, _⟩ => ⟨S1x80x4096, .f32⟩
  | .local _ .vmem, ⟨6, _⟩ => ⟨S1024x4096, .f32⟩
  | .local _ .smem, ⟨0, _⟩ => ⟨S1x1x1, .f32⟩
  | .local _ .smem, ⟨1, _⟩ => ⟨S1x1x1, .f32⟩
  | _, _ => ⟨S16x4096x80, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6_0 : Ref sig .tc := ⟨.hbm, 9, rfl⟩
abbrev main_v6_1 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_stg4_0 : Ref sig .tc := ⟨.smem, 0, rfl⟩
abbrev cc0_stg4_1 : Ref sig .tc := ⟨.smem, 1, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![16, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x80x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S80x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S81x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x80x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .smem S1x1x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceIdeal.lean ====
abbrev S16x4096x80 : Shape := ⟨3, ![16, 4096, 80]⟩
abbrev S1024x80 : Shape := ⟨2, ![1024, 80]⟩
abbrev S80x1024 : Shape := ⟨2, ![80, 1024]⟩
abbrev S_ : Shape := ⟨0, ![]⟩
abbrev S1024 : Shape := ⟨1, ![1024]⟩
abbrev S1x1024 : Shape := ⟨2, ![1, 1024]⟩
abbrev S65536x80 : Shape := ⟨2, ![65536, 80]⟩
abbrev S65536 : Shape := ⟨1, ![65536]⟩
abbrev S65536x1 : Shape := ⟨2, ![65536, 1]⟩
abbrev S65536x1024 : Shape := ⟨2, ![65536, 1024]⟩
abbrev S16x4096 : Shape := ⟨2, ![16, 4096]⟩
abbrev S16x4096x1 : Shape := ⟨3, ![16, 4096, 1]⟩
abbrev S1 : Shape := ⟨1, ![1]⟩
abbrev S1x1x1 : Shape := ⟨3, ![1, 1, 1]⟩

abbrev nBuf : Space → Nat
  | .hbm => 74
  | .vmem => 0
  | .smem => 0
  | _ => 0

abbrev bufTy : (tb : Table) → Fin (tcTables nBuf tb) → BufTy
  | .hbm, ⟨0, _⟩ => ⟨S16x4096x80, .f32⟩
  | .hbm, ⟨1, _⟩ => ⟨S1024x80, .f32⟩
  | .hbm, ⟨2, _⟩ => ⟨S80x1024, .f32⟩
  | .hbm, ⟨3, _⟩ => ⟨S80x1024, .f32⟩
  | .hbm, ⟨4, _⟩ => ⟨S_, .f32⟩
  | .hbm, ⟨5, _⟩ => ⟨S1024, .f32⟩
  | .hbm, ⟨6, _⟩ => ⟨S1024, .f32⟩
  | .hbm, ⟨7, _⟩ => ⟨S1x1024, .f32⟩
  | .hbm, ⟨8, _⟩ => ⟨S80x1024, .f32⟩
  | .hbm, ⟨9, _⟩ => ⟨S80x1024, .f32⟩
  | .hbm, ⟨10, _⟩ => ⟨S65536x80, .f32⟩
  | .hbm, ⟨11, _⟩ => ⟨S65536x80, .f32⟩
  | .hbm, ⟨12, _⟩ => ⟨S_, .f32⟩
  | .hbm, ⟨13, _⟩ => ⟨S65536, .f32⟩
  | .hbm, ⟨14, _⟩ => ⟨S65536x1, .f32⟩
  | .hbm, ⟨15, _⟩ => ⟨S_, .f32⟩
  | .hbm, ⟨16, _⟩ => ⟨S65536x80, .f32⟩
  | .hbm, ⟨17, _⟩ => ⟨S65536x80, .f32⟩
  | .hbm, ⟨18, _⟩ => ⟨S65536x1024, .f32⟩
  | .hbm, ⟨19, _⟩ => ⟨S65536x1024, .f32⟩
  | .hbm, ⟨20, _⟩ => ⟨S65536x1024, .f32⟩
  | .hbm, ⟨21, _⟩ => ⟨S80x1024, .f32⟩
  | .hbm, ⟨22, _⟩ => ⟨S_, .f32⟩
  | .hbm, ⟨23, _⟩ => ⟨S1024, .f32⟩
  | .hbm, ⟨24, _⟩ => ⟨S1x1024, .f32⟩
  | .hbm, ⟨25, _⟩ => ⟨S65536x1024, .f32⟩
  | .hbm, ⟨26, _⟩ => ⟨S65536x1024, .f32⟩
  | .hbm, ⟨27, _⟩ => ⟨S65536x1024, .f32⟩
  | .hbm, ⟨28, _⟩ => ⟨S65536x1024, .i32⟩
  | .hbm, ⟨29, _⟩ => ⟨S_, .f32⟩
  | .hbm, ⟨30, _⟩ => ⟨S_, .i32⟩
  | .hbm, ⟨31, _⟩ => ⟨S65536, .f32⟩
  | .hbm, ⟨32, _⟩ => ⟨S65536, .i32⟩
  | .hbm, ⟨33, _⟩ => ⟨S16x4096, .i32⟩
  | .hbm, ⟨34, _⟩ => ⟨S_, .i32⟩
  | .hbm, ⟨35, _⟩ => ⟨S16x4096, .i32⟩
  | .hbm, ⟨36, _⟩ => ⟨S16x4096, .i1⟩
  | .hbm, ⟨37, _⟩ => ⟨S_, .i32⟩
  | .hbm, ⟨38, _⟩ => ⟨S16x4096, .i32⟩
  | .hbm, ⟨39, _⟩ => ⟨S16x4096, .i32⟩
  | .hbm, ⟨40, _⟩ => ⟨S16x4096, .i32⟩
  | .hbm, ⟨41, _⟩ => ⟨S16x4096x1, .i32⟩
  | .hbm, ⟨42, _⟩ => ⟨S1, .i32⟩
  | .hbm, ⟨43, _⟩ => ⟨S_, .i32⟩
  | .hbm, ⟨44, _⟩ => ⟨S16x4096x1, .i32⟩
  | .hbm, ⟨45, _⟩ => ⟨S16x4096x1, .i1⟩
  | .hbm, ⟨46, _⟩ => ⟨S1x1x1, .i32⟩
  | .hbm, ⟨47, _⟩ => ⟨S16x4096x1, .i32⟩
  | .hbm, ⟨48, _⟩ => ⟨S16x4096x1, .i1⟩
  | .hbm, ⟨49, _⟩ => ⟨S16x4096x1, .i1⟩
  | .hbm, ⟨50, _⟩ => ⟨S_, .i1⟩
  | .hbm, ⟨51, _⟩ => ⟨S16x4096, .i1⟩
  | .hbm, ⟨52, _⟩ => ⟨S16x4096x80, .f32⟩
  | .hbm, ⟨53, _⟩ => ⟨S16x4096x80, .i1⟩
  | .hbm, ⟨54, _⟩ => ⟨S_, .f32⟩
  | .hbm, ⟨55, _⟩ => ⟨S16x4096x80, .f32⟩
  | .hbm, ⟨56, _⟩ => ⟨S16x4096x80, .f32⟩
  | .hbm, ⟨57, _⟩ => ⟨S16x4096x80, .f32⟩
  | .hbm, ⟨58, _⟩ => ⟨S16x4096x80, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S16x4096x80, .f32⟩
  | .hbm, ⟨64, _⟩ => ⟨S16x4096x80, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S16x4096x80, .f32⟩
  | .hbm, ⟨73, _⟩ => ⟨S16x4096x80, .f32⟩
  | _, _ => ⟨S16x4096x80, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_call1_v0 : Ref sig .tc := ⟨.hbm, 28, rfl⟩
abbrev main_call1_cst : Ref sig .tc := ⟨.hbm, 29, rfl⟩
abbrev main_call1_c : Ref sig .tc := ⟨.hbm, 30, rfl⟩
abbrev main_call1_v1_0 : Ref sig .tc := ⟨.hbm, 31, rfl⟩
abbrev main_v20 : Ref sig .tc := ⟨.hbm, 32, rfl⟩
abbrev main_v21 : Ref sig .tc := ⟨.hbm, 33, rfl⟩
abbrev main_call2_c : Ref sig .tc := ⟨.hbm, 34, rfl⟩
abbrev main_call2_v0 : Ref sig .tc := ⟨.hbm, 35, rfl⟩
abbrev main_call2_v1 : Ref sig .tc := ⟨.hbm, 36, rfl⟩
abbrev main_call2_c_0 : Ref sig .tc := ⟨.hbm, 37, rfl⟩
abbrev main_call2_v2 : Ref sig .tc := ⟨.hbm, 38, rfl⟩
abbrev main_call2_v3 : Ref sig .tc := ⟨.hbm, 39, rfl⟩
abbrev main_call2_v4 : Ref sig .tc := ⟨.hbm, 40, rfl⟩
abbrev main_call2_v5 : Ref sig .tc := ⟨.hbm, 41, rfl⟩
abbrev main_call2_c_1 : Ref sig .tc := ⟨.hbm, 42, rfl⟩
abbrev main_call2_c_2 : Ref sig .tc := ⟨.hbm, 43, rfl⟩
abbrev main_call2_v6 : Ref sig .tc := ⟨.hbm, 44, rfl⟩
abbrev main_call2_v7 : Ref sig .tc := ⟨.hbm, 45, rfl⟩
abbrev main_call2_v8 : Ref sig .tc := ⟨.hbm, 46, rfl⟩
abbrev main_call2_v9 : Ref sig .tc := ⟨.hbm, 47, rfl⟩
abbrev main_call2_v10 : Ref sig .tc := ⟨.hbm, 48, rfl⟩
abbrev main_call2_v11 : Ref sig .tc := ⟨.hbm, 49, rfl⟩
abbrev main_call2_c_3 : Ref sig .tc := ⟨.hbm, 50, rfl⟩
abbrev main_call2_v12 : Ref sig .tc := ⟨.hbm, 51, rfl⟩
abbrev main_call2_v13 : Ref sig .tc := ⟨.hbm, 52, rfl⟩
abbrev main_call2_v14 : Ref sig .tc := ⟨.hbm, 53, rfl⟩
abbrev main_call2_cst : Ref sig .tc := ⟨.hbm, 54, rfl⟩
abbrev main_call2_v15 : Ref sig .tc := ⟨.hbm, 55, rfl⟩
abbrev main_v22 : Ref sig .tc := ⟨.hbm, 56, rfl⟩
abbrev main_v23 : Ref sig .tc := ⟨.hbm, 57, rfl⟩
abbrev main_v24 : Ref sig .tc := ⟨.hbm, 58, rfl⟩
abbrev main_cst_2 : Ref sig .tc := ⟨.hbm, 59, rfl⟩
abbrev main_v25 : Ref sig .tc := ⟨.hbm, 60, rfl⟩
abbrev main_cst_3 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_cst_4 : Ref sig .tc := ⟨.hbm, 65, rfl⟩
abbrev main_v29 : Ref sig .tc := ⟨.hbm, 66, rfl⟩
abbrev main_cst_5 : Ref sig .tc := ⟨.hbm, 67, rfl⟩
abbrev main_v30 : Ref sig .tc := ⟨.hbm, 68, rfl⟩
abbrev main_cst_6 : Ref sig .tc := ⟨.hbm, 69, rfl⟩
abbrev main_v31 : Ref sig .tc := ⟨.hbm, 70, rfl⟩
abbrev main_v32 : Ref sig .tc := ⟨.hbm, 71, rfl⟩
abbrev main_v33 : Ref sig .tc := ⟨.hbm, 72, rfl⟩
abbrev main_v34 : Ref sig .tc := ⟨.hbm, 73, rfl⟩

abbrev nD : Nat := 1
abbrev τ : Topo := Topo.v7x

variable {F : FTy → Type} [FloatOps F]
-- ==== Proof.Spec.lean ====
module

public import Idealize.ShloMosaic.Lib.Pointwise
public import Idealize.ShloMosaic.Lib.IdealHost

@[expose] public section

set_option maxRecDepth 16384

noncomputable section

open Idealize.ShloMosaic

namespace Cert.VQ

/-- The vectors to be coded: 16 batches of 4096 vectors of length 80. -/
abbrev Inp : Type := FVec Ideal ⟨3, ![16, 4096, 80]⟩ .f32
/-- The code book: 1024 codes of length 80. -/
abbrev Book : Type := FVec Ideal ⟨2, ![1024, 80]⟩ .f32

/-- Coordinate `k` of code `j` divided by that code's Euclidean norm. -/
def enc (W : Book) (j : Fin 1024) (k : Fin 80) : EReal :=
  Ideal.div (W (ix2 j k)) (Ideal.sqrt (∑ l : Fin 80, W (ix2 j l) * W (ix2 j l)))

/-- The squared length of vector `t` of batch `b`. -/
def xsq (X : Inp) (b : Fin 16) (t : Fin 4096) : EReal := ∑ k : Fin 80, X (ix3 b t k) * X (ix3 b t k)

/-- The squared length of the normalized code `j`. -/
def esq (W : Book) (j : Fin 1024) : EReal := ∑ k : Fin 80, enc W j k * enc W j k

/-- The inner product of the normalized code `j` with a vector. -/
def dot (X : Inp) (W : Book) (b : Fin 16) (t : Fin 4096) (j : Fin 1024) : EReal :=
  ∑ k : Fin 80, enc W j k * X (ix3 b t k)

/-- The reference's squared distance of a vector to the normalized code `j`. -/
def dist (X : Inp) (W : Book) (b : Fin 16) (t : Fin 4096) (j : Fin 1024) : EReal :=
  xsq X b t - (∑ k : Fin 80, (2 * X (ix3 b t k)) * enc W j k) + esq W j

/-- The kernel's score of code `j`, the negated distance in another order of operations. -/
def score (X : Inp) (W : Book) (b : Fin 16) (t : Fin 4096) (j : Fin 1024) : EReal :=
  2 * dot X W b t j - xsq X b t - esq W j

/-- Code `j` is strictly nearer than every other. -/
def Best (X : Inp) (W : Book) (b : Fin 16) (t : Fin 4096) (j : Fin 1024) : Prop :=
  ∀ i, i ≠ j → dist X W b t j < dist X W b t i

/-- Every distance is finite. -/
def AllFinite (X : Inp) (W : Book) : Prop := ∀ b t j, dist X W b t j ≠ ⊤ ∧ dist X W b t j ≠ ⊥

/-- The word of 2.0 denotes two. -/
theorem two_eq : Ideal.ofBits .f32 0x40000000#32 = 2 := by
  have h : Ideal.ofBits .f32 0x40000000#32 = ((8388608 * (1 / 4194304) : ℝ) : EReal) := by
    simp [Ideal.ofBits, Ideal.ieee]
    norm_num
  rw [h, show (8388608 * (1 / 4194304) : ℝ) = 2 by norm_num]
  rfl

/-- Multiplication by two distributes over a finite sum of extended reals. -/
theorem two_mul_sum {ι : Type} (s : Finset ι) (f : ι → EReal) : 2 * ∑ i ∈ s, f i = ∑ i ∈ s, 2 * f i := by
  classical
  induction s using Finset.induction_on with
  | empty => simp
  | insert a s ha ih =>
    rw [Finset.sum_insert ha, Finset.sum_insert ha, ← ih]
    have h2 : (2 : EReal) = ((2 : ℝ) : EReal) := rfl
    rw [h2]
    exact EReal.left_distrib_of_nonneg_of_ne_top (by norm_num) (EReal.coe_ne_top 2) _ _

/-- The sum in the reference's distance is twice the inner product. -/
theorem sum_two (X : Inp) (W : Book) (b : Fin 16) (t : Fin 4096) (j : Fin 1024) :
    (∑ k : Fin 80, (2 * X (ix3 b t k)) * enc W j k) = 2 * dot X W b t j := by
  rw [dot, two_mul_sum]
  exact Finset.sum_congr rfl fun k _ => by rw [mul_assoc, mul_comm (X _)]

/-- If `a - c + e` is finite then `c - a - e` is its negation. -/
theorem neg_of_finite {a c e : EReal} (ht : a - c + e ≠ ⊤) (hb : a - c + e ≠ ⊥) : c - a - e = -(a - c + e) := by
  induction a using EReal.rec <;> induction c using EReal.rec <;> induction e using EReal.rec <;>
    simp_all [sub_eq_add_neg]
  norm_cast
  ring_nf

/-- Where the distance is finite the score is its negation. -/
theorem score_eq {X : Inp} {W : Book} (h : AllFinite X W) (b : Fin 16) (t : Fin 4096) (j : Fin 1024) :
    score X W b t j = -dist X W b t j := by
  have := h b t j
  rw [dist, sum_two] at this ⊢
  exact neg_of_finite this.1 this.2

/-- Ideal division by one is the identity. -/
theorem div_one (x : EReal) : Ideal.div x 1 = x := by
  rw [show (1 : EReal) = ((1 : ℝ) : EReal) from rfl, Ideal.div_coe (one_ne_zero)]
  simp

/-- A sum against the indicator of one index is the summand there. -/
theorem sum_indicator {n : Nat} (f : Fin n → EReal) (p : Fin n → Prop) [DecidablePred p] (j : Fin n) (hp : ∀ i, p i ↔ i = j) :
    (∑ i, f i * (if p i then (1 : EReal) else 0)) = f j := by
  rw [Finset.sum_eq_single j]
  · rw [if_pos ((hp j).2 rfl), mul_one]
  · intro i _ hi; rw [if_neg (fun h => hi ((hp i).1 h)), mul_zero]
  · intro h; exact absurd (Finset.mem_univ _) h

end Cert.VQ
-- ==== Proof.Nearest.lean ====
module

public import proofs.«01_k».proof.Proof.Spec

@[expose] public section

set_option maxRecDepth 16384

noncomputable section

open Idealize.ShloMosaic

namespace Cert.VQ

/-- A fold of maxima is at most any bound of its start and its terms. -/
theorem fold_le {n : Nat} (f : Fin n → EReal) {a M : EReal} (ha : a ≤ M) (h : ∀ i, f i ≤ M) :
    Finset.univ.fold max a f ≤ M := Finset.fold_max_le M |>.2 ⟨ha, fun i _ => h i⟩

/-- A fold of maxima is at least each of its terms. -/
theorem le_fold {n : Nat} (f : Fin n → EReal) (a : EReal) (i : Fin n) : f i ≤ Finset.univ.fold max a f :=
  Finset.le_fold_max _ |>.2 (Or.inr ⟨i, Finset.mem_univ _, le_rfl⟩)

/-- The word of the smallest value denotes it. -/
theorem bot_eq : Ideal.ofBits .f32 0xFF800000#32 = ⊥ := by
  simp [Ideal.ofBits, Ideal.ieee]

/-- The word of the largest value denotes it. -/
theorem top_eq : Ideal.ofBits .f32 0x7F800000#32 = ⊤ := by
  simp [Ideal.ofBits, Ideal.ieee]

/-- The word `0x34800000` denotes `2⁻²²`. -/
theorem scale_eq : Ideal.ofBits .f32 0x34800000#32 = ((1 / 4194304 : ℝ) : EReal) := by
  have h : Ideal.ofBits .f32 0x34800000#32 = ((8388608 * (1 / 35184372088832) : ℝ) : EReal) := by
    simp [Ideal.ofBits, Ideal.ieee]
    norm_num
  rw [h, show (8388608 * (1 / 35184372088832) : ℝ) = 1 / 4194304 by norm_num]

/-- The word `0x3E800000` denotes a quarter. -/
theorem quarter_eq : Ideal.ofBits .f32 0x3E800000#32 = ((1 / 4 : ℝ) : EReal) := by
  have h : Ideal.ofBits .f32 0x3E800000#32 = ((8388608 * (1 / 33554432) : ℝ) : EReal) := by
    simp [Ideal.ofBits, Ideal.ieee]
    norm_num
  rw [h, show (8388608 * (1 / 33554432) : ℝ) = 1 / 4 by norm_num]

/-- The word `0x4AA00000` denotes the number of entries, 16 · 4096 · 80. -/
theorem count_eq : Ideal.ofBits .f32 0x4AA00000#32 = ((5242880 : ℝ) : EReal) := by
  have h : Ideal.ofBits .f32 0x4AA00000#32 = ((10485760 * (1 / 2) : ℝ) : EReal) := by
    simp [Ideal.ofBits, Ideal.ieee]
  rw [h, show (10485760 * (1 / 2) : ℝ) = 5242880 by norm_num]

/-- A factor that is a nonnegative real distributes over a finite sum of extended reals. -/
theorem sum_mul_real {ι : Type} (s : Finset ι) (f : ι → EReal) {r : ℝ} (hr : 0 ≤ r) :
    (∑ i ∈ s, f i) * (r : EReal) = ∑ i ∈ s, f i * (r : EReal) := by
  classical
  induction s using Finset.induction_on with
  | empty => simp
  | insert a s ha ih =>
    rw [Finset.sum_insert ha, Finset.sum_insert ha, ← ih]
    exact EReal.right_distrib_of_nonneg_of_ne_top (by exact_mod_cast hr) (EReal.coe_ne_top r) _ _

/-- The reference's mean plus a quarter of the mean is the sum scaled by `2⁻²²`. -/
theorem loss_scale (S : EReal) :
    Ideal.div S ((5242880 : ℝ) : EReal) + ((1 / 4 : ℝ) : EReal) * Ideal.div S ((5242880 : ℝ) : EReal)
      = S * ((1 / 4194304 : ℝ) : EReal) := by
  rw [Ideal.div_coe (by norm_num : (5242880 : ℝ) ≠ 0), mul_comm ((1 / 4 : ℝ) : EReal), mul_assoc, ← EReal.coe_mul]
  induction S using EReal.rec with
  | bot =>
    rw [EReal.bot_mul_coe_of_pos (by norm_num), EReal.bot_mul_coe_of_pos (by norm_num), EReal.bot_mul_coe_of_pos (by norm_num)]
    rfl
  | coe x => norm_cast; ring_nf
  | top =>
    rw [EReal.top_mul_coe_of_pos (by norm_num), EReal.top_mul_coe_of_pos (by norm_num), EReal.top_mul_coe_of_pos (by norm_num)]
    rfl

/-- The maximum of four consecutive chunks' maxima is the largest score. -/
theorem max_chunks {s : Fin 1024 → EReal} {j : Fin 1024} (h : ∀ i, s i ≤ s j) :
    max (max (max (Finset.univ.fold max ⊥ fun i : Fin 256 => s ⟨i, by omega⟩)
      (Finset.univ.fold max ⊥ fun i : Fin 256 => s ⟨256 + i, by omega⟩))
      (Finset.univ.fold max ⊥ fun i : Fin 256 => s ⟨512 + i, by omega⟩))
      (Finset.univ.fold max ⊥ fun i : Fin 256 => s ⟨768 + i, by omega⟩) = s j := by
  apply le_antisymm
  · exact max_le (max_le (max_le (fold_le _ bot_le fun _ => h _) (fold_le _ bot_le fun _ => h _))
      (fold_le _ bot_le fun _ => h _)) (fold_le _ bot_le fun _ => h _)
  · obtain ⟨j, hj⟩ := j
    by_cases h1 : j < 256
    · exact le_max_of_le_left (le_max_of_le_left (le_max_of_le_left
        (le_fold (fun i : Fin 256 => s ⟨i, by omega⟩) ⊥ ⟨j, h1⟩)))
    by_cases h2 : j < 512
    · refine le_max_of_le_left (le_max_of_le_left (le_max_of_le_right (le_trans (le_of_eq (congrArg s (Fin.ext ?_)))
        (le_fold (fun i : Fin 256 => s ⟨256 + i, by omega⟩) ⊥ ⟨j - 256, by omega⟩))))
      show j = 256 + (j - 256); omega
    by_cases h3 : j < 768
    · refine le_max_of_le_left (le_max_of_le_right (le_trans (le_of_eq (congrArg s (Fin.ext ?_)))
        (le_fold (fun i : Fin 256 => s ⟨512 + i, by omega⟩) ⊥ ⟨j - 512, by omega⟩)))
      show j = 512 + (j - 512); omega
    · refine le_max_of_le_right (le_trans (le_of_eq (congrArg s (Fin.ext ?_)))
        (le_fold (fun i : Fin 256 => s ⟨768 + i, by omega⟩) ⊥ ⟨j - 768, by omega⟩))
      show j = 768 + (j - 768); omega

/-- A sum over the codes is the sum of its four chunks' sums. -/
theorem sum_chunks (f : Fin 1024 → EReal) :
    (∑ i : Fin 256, f ⟨i, by omega⟩) + (∑ i : Fin 256, f ⟨256 + i, by omega⟩) + (∑ i : Fin 256, f ⟨512 + i, by omega⟩)
      + (∑ i : Fin 256, f ⟨768 + i, by omega⟩) = ∑ i, f i := by
  have h := Fin.sum_univ_tiles 4 256 rfl f
  rw [show (∑ i, f i) = _ from h]
  simp only [Fin.sum_univ_four]
  simp

end Cert.VQ
-- ==== Proof.Chunk.lean ====
module

public import proofs.«01_k».proof.Proof.Nearest
public import proofs.«01_k».proof.Proof.Gen.KernelIdeal.Skeleton
public import Idealize.ShloMosaic.Lib.Pipeline.ValueKit

@[expose] public section

set_option maxRecDepth 16384

noncomputable section

open Idealize.ShloMosaic

namespace Cert.VQ

section
open Cert.KernelIdeal Cert.KernelIdeal.Gen
attribute [local instance] Cert.KernelIdeal.Gen.facts

variable {X : Inp} {W : Book} {b : Fin 16} {v0 : Vec Ideal S1x80x4096 .f32} {v2 : Vec Ideal S80x1024 .f32}

/-- The block of vectors, without its leading unit axis. -/
theorem pay3_at (hx : ∀ k t, v0 (ix3 (0 : Fin 1) k t) = X (ix3 b t k)) (k : Fin 80) (t : Fin 4096) :
    k0_pay3 v0 (ix2 k t) = X (ix3 b t k) := by
  pointwise [k0_pay3]
  exact hx k t

/-- The normalized codes. -/
theorem pay4_at (hw : ∀ k j, v2 (ix2 k j) = W (ix2 j k)) (k : Fin 80) (j : Fin 1024) :
    k0_pay4 v2 (ix2 k j) = enc W j k := by
  pointwise [k0_pay4]
  simp only [hw]
  rfl

/-- The squared lengths of the vectors. -/
theorem pay5_at (hx : ∀ k t, v0 (ix3 (0 : Fin 1) k t) = X (ix3 b t k)) (t : Fin 4096) :
    k0_pay5 v0 (ix2 (0 : Fin 1) t) = xsq X b t := by
  pointwise [k0_pay5]
  simp only [pay3_at hx]
  rfl

/-- The squared lengths of the normalized codes. -/
theorem pay6_at (hw : ∀ k j, v2 (ix2 k j) = W (ix2 j k)) (j : Fin 1024) :
    k0_pay6 v2 (ix2 j (0 : Fin 1)) = esq W j := by
  pointwise [k0_pay6]
  simp only [pay4_at hw]
  rfl

/-- The scores of codes 0 to 255. -/
theorem pay7_at (hx : ∀ k t, v0 (ix3 (0 : Fin 1) k t) = X (ix3 b t k)) (hw : ∀ k j, v2 (ix2 k j) = W (ix2 j k))
    (i : Fin 256) (t : Fin 4096) : k0_pay7 v0 v2 (ix2 i t) = score X W b t ⟨i, by omega⟩ := by
  pointwise [k0_pay7]
  simp only [pay3_at hx, pay4_at hw, pay5_at hx, pay6_at hw, two_eq]
  rfl

/-- The scores of codes 256 to 511. -/
theorem pay10_at (hx : ∀ k t, v0 (ix3 (0 : Fin 1) k t) = X (ix3 b t k)) (hw : ∀ k j, v2 (ix2 k j) = W (ix2 j k))
    (i : Fin 256) (t : Fin 4096) : k0_pay10 v0 v2 (ix2 i t) = score X W b t ⟨256 + i, by omega⟩ := by
  pointwise [k0_pay10]
  simp only [pay3_at hx, pay4_at hw, pay5_at hx, pay6_at hw, two_eq]
  rfl

/-- The scores of codes 512 to 767. -/
theorem pay12_at (hx : ∀ k t, v0 (ix3 (0 : Fin 1) k t) = X (ix3 b t k)) (hw : ∀ k j, v2 (ix2 k j) = W (ix2 j k))
    (i : Fin 256) (t : Fin 4096) :
    k0_pay12 (k0_pay3 v0) (k0_pay4 v2) (k0_pay5 v0) (k0_pay6 v2) (ix2 i t) = score X W b t ⟨512 + i, by omega⟩ := by
  pointwise [k0_pay12]
  simp only [pay3_at hx, pay4_at hw, pay5_at hx, pay6_at hw, two_eq]
  rfl

/-- The scores of codes 768 to 1023. -/
theorem pay14_at (hx : ∀ k t, v0 (ix3 (0 : Fin 1) k t) = X (ix3 b t k)) (hw : ∀ k j, v2 (ix2 k j) = W (ix2 j k))
    (i : Fin 256) (t : Fin 4096) :
    k0_pay14 (k0_pay3 v0) (k0_pay4 v2) (k0_pay5 v0) (k0_pay6 v2) (ix2 i t) = score X W b t ⟨768 + i, by omega⟩ := by
  pointwise [k0_pay14]
  simp only [pay3_at hx, pay4_at hw, pay5_at hx, pay6_at hw, two_eq]
  rfl

/-- The largest score. -/
theorem pay16_at (hx : ∀ k t, v0 (ix3 (0 : Fin 1) k t) = X (ix3 b t k)) (hw : ∀ k j, v2 (ix2 k j) = W (ix2 j k))
    {t : Fin 4096} {j : Fin 1024} (h : ∀ i, score X W b t i ≤ score X W b t j) :
    k0_pay16 (k0_pay3 v0) (k0_pay4 v2) (k0_pay5 v0) (k0_pay6 v2) (k0_pay9 v0 v2) (k0_pay10 v0 v2) (ix2 (0 : Fin 1) t)
      = score X W b t j := by
  have h9 : k0_pay9 v0 v2 (ix2 (0 : Fin 1) t)
      = Finset.univ.fold max ⊥ fun i : Fin 256 => score X W b t ⟨i, by omega⟩ := by
    pointwise [k0_pay9]
    simp only [pay7_at hx hw, bot_eq]
  pointwise [k0_pay16]
  rw [h9]
  simp only [pay10_at hx hw, pay12_at hx hw, pay14_at hx hw, bot_eq]
  exact max_chunks h

/-- A comparison's outcome, widened and made a float, is the indicator of the comparison. -/
theorem hit (p : Prop) [Decidable p] :
    (FloatOps.sitofp .f32 (BitVec.setWidth 32 (BitVec.ofBool (decide p))) : Ideal .f32) = (if p then (1 : EReal) else 0) := by
  by_cases hp : p <;> simp [hp, FloatOps.sitofp]

/-- What the block's second half computes: the nearest code minus the vector. -/
theorem pay18_at (hx : ∀ k t, v0 (ix3 (0 : Fin 1) k t) = X (ix3 b t k)) (hw : ∀ k j, v2 (ix2 k j) = W (ix2 j k))
    {A : Fin 81 → Fin 1024 → EReal} {v82 v91 v101 v111 : Vec Ideal S81x256 .bf16}
    (h0 : ∀ r (i : Fin 256), v82 (ix2 r i) = A r ⟨i, by omega⟩)
    (h1 : ∀ r (i : Fin 256), v91 (ix2 r i) = A r ⟨256 + i, by omega⟩)
    (h2 : ∀ r (i : Fin 256), v101 (ix2 r i) = A r ⟨512 + i, by omega⟩)
    (h3 : ∀ r (i : Fin 256), v111 (ix2 r i) = A r ⟨768 + i, by omega⟩)
    (hA : ∀ (k : Fin 80) i, A ⟨k, by omega⟩ i = W (ix2 i k)) (hA1 : ∀ i, A 80 i = 1)
    {t : Fin 4096} {j : Fin 1024} (h : ∀ i, i ≠ j → score X W b t i < score X W b t j) (k : Fin 80) :
    k0_pay18 (F := Ideal) (k0_pay3 v0)
      (k0_pay16 (k0_pay3 v0) (k0_pay4 v2) (k0_pay5 v0) (k0_pay6 v2) (k0_pay9 v0 v2) (k0_pay10 v0 v2))
      (k0_pay17 (k0_pay3 v0) (k0_pay4 v2) (k0_pay5 v0) (k0_pay6 v2) (k0_pay9 v0 v2) (k0_pay10 v0 v2) (k0_pay8 v0 v2))
      v82 (k0_pay11 (k0_pay10 v0 v2)) v91
      (k0_pay13 (k0_pay3 v0) (k0_pay4 v2) (k0_pay5 v0) (k0_pay6 v2)) v101
      (k0_pay15 (k0_pay3 v0) (k0_pay4 v2) (k0_pay5 v0) (k0_pay6 v2)) v111 (ix2 k t)
      = W (ix2 j k) - X (ix3 b t k) := by
  have hle : ∀ i, score X W b t i ≤ score X W b t j := fun i => by
    by_cases hi : i = j
    · rw [hi]
    · exact (h i hi).le
  have hp : ∀ i, score X W b t i = score X W b t j ↔ i = j := fun i =>
    ⟨fun he => by_contra fun hi => (h i hi).ne he, fun he => by rw [he]⟩
  have e17 : ∀ i : Fin 256, k0_pay17 (k0_pay3 v0) (k0_pay4 v2) (k0_pay5 v0) (k0_pay6 v2) (k0_pay9 v0 v2) (k0_pay10 v0 v2) (k0_pay8 v0 v2) (ix2 i t)
      = if score X W b t ⟨i, by omega⟩ = score X W b t j then (1 : EReal) else 0 := fun i => by
    pointwise [k0_pay17]
    rw [hit, pay16_at hx hw hle]
    have e8 : k0_pay8 v0 v2 (ix2 i t) = score X W b t ⟨i, by omega⟩ := by
      pointwise [k0_pay8]
      exact pay7_at hx hw i t
    rw [e8]
  have e11 : ∀ i : Fin 256, k0_pay11 (k0_pay10 v0 v2) (ix2 i t) = score X W b t ⟨256 + i, by omega⟩ := fun i => by
    pointwise [k0_pay11]
    exact pay10_at hx hw i t
  have e13 : ∀ i : Fin 256, k0_pay13 (k0_pay3 v0) (k0_pay4 v2) (k0_pay5 v0) (k0_pay6 v2) (ix2 i t) = score X W b t ⟨512 + i, by omega⟩ := fun i => by
    pointwise [k0_pay13]
    exact pay12_at hx hw i t
  have e15 : ∀ i : Fin 256, k0_pay15 (k0_pay3 v0) (k0_pay4 v2) (k0_pay5 v0) (k0_pay6 v2) (ix2 i t) = score X W b t ⟨768 + i, by omega⟩ := fun i => by
    pointwise [k0_pay15]
    exact pay14_at hx hw i t
  pointwise [k0_pay18]
  simp only [hit, e17, e11, e13, e15, pay16_at hx hw hle, h0, h1, h2, h3, pay3_at hx]
  have hs : ∀ r, _ = _ := fun r => sum_chunks fun i => A r i * (if score X W b t i = score X W b t j then (1 : EReal) else 0)
  simp only [sum_indicator _ _ j hp] at hs
  rw [hs, hs, hA, hA1, div_one]

/-- The block's share of the loss. -/
theorem pay2_at (v : FVec Ideal S80x4096 .f32) :
    k0_pay2 v = (∑ k : Fin 80, ∑ t : Fin 4096, v (ix2 k t) * v (ix2 k t)) * ((1 / 4194304 : ℝ) : EReal) := by
  pointwise [k0_pay2]
  rw [scale_eq]

/-- What the block writes to the first result, without its leading unit axis. -/
theorem pay1_at (v : FVec Ideal S80x4096 .f32) (k : Fin 80) (t : Fin 4096) : k0_pay1 v (ix3 (0 : Fin 1) k t) = v (ix2 k t) := by
  pointwise [k0_pay1]

end
end Cert.VQ
-- ==== Proof.Block.lean ====
module

public import proofs.«01_k».proof.Proof.Chunk
public import proofs.«01_k».proof.Proof.Gen.KernelIdeal.Frame
public import Idealize.ShloMosaic.Lib.Pipeline.ReadBack
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.VQ

section
open Cert.KernelIdeal Cert.KernelIdeal.Gen

variable (m : (ℓ : Loc nD τ sig) → Buf (Elt Ideal) ℓ)

/-- The vectors the run starts from. -/
abbrev kX (c : Dev nD) : Inp := m (c.tc.loc main_arg0)
/-- The code book the run starts from. -/
abbrev kW (c : Dev nD) : Book := m (c.tc.loc main_arg1)

/-- The block index of every window at a grid point. -/
theorem idx : ∀ t : Fin cfg0.N, win0_0.index t = ![t.val, 0, 0] ∧ win0_1.index t = ![0, 0] ∧ win0_2.index t = ![0, 0] ∧ win0_3.index t = ![t.val, 0, 0] ∧ win0_4.index t = ![t.val, 0, 0] ∧ t.val < 16 :=
  (by decide +kernel : ∀ t : Fin grid0.N, _)

/-- The batch a grid point works on. -/
def bat (t : Fin cfg0.N) : Fin 16 := ⟨t.val, (idx t).2.2.2.2.2⟩

/-- The transposed vectors the region reads. -/
theorem V0_at (c : Dev nD) (b : Fin 16) (k : Fin 80) (s : Fin 4096) : V m c main_v0 (ix3 b k s) = kX m c (ix3 b s k) := by
  entry_read
  simp only [List.flatten_cons, List.flatten_nil, List.append_nil]
  after_results
  pointwise []

/-- The transposed code book the region reads. -/
theorem V1_at (c : Dev nD) (k : Fin 80) (j : Fin 1024) : V m c main_v1 (ix2 k j) = kW m c (ix2 j k) := by
  entry_read
  simp only [List.flatten_cons, List.flatten_nil, List.append_nil]
  after_results
  pointwise []

/-- The transposed code book with a last row of ones, entry by entry. -/
def aug (W : Book) (r : Fin 81) (j : Fin 1024) : EReal := if h : r.val < 80 then W (ix2 j ⟨r.val, h⟩) else 1

/-- The augmented code book the region reads. -/
theorem V5_at (c : Dev nD) (r : Fin 81) (j : Fin 1024) : V m c main_v5 (ix2 r j) = aug (kW m c) r j := by
  entry_read
  simp only [List.flatten_cons, List.flatten_nil, List.append_nil]
  after_results
  pointwise []
  rfl

/-- The first window's block is its batch of vectors. -/
theorem iblk0_at (c : Dev nD) (t : Fin cfg0.N) (k : Fin 80) (s : Fin 4096) :
    iblk m c 0 t (ix3 (0 : Fin 1) k s) = kX m c (ix3 (bat t) s k) := by
  rw [← V0_at]
  unfold iblk
  blk_simp [idx t]
  congr 1
  blk_ext [idx t]
  rfl

/-- The second window's block is the transposed code book. -/
theorem iblk1_at (c : Dev nD) (t : Fin cfg0.N) (k : Fin 80) (j : Fin 1024) :
    iblk m c 1 t (ix2 k j) = kW m c (ix2 j k) := by
  rw [← V1_at]
  unfold iblk
  blk_simp [idx t]
  congr 1
  blk_ext [idx t]

/-- The third window's block is the augmented code book. -/
theorem iblk2_at (c : Dev nD) (t : Fin cfg0.N) (r : Fin 81) (j : Fin 1024) :
    iblk m c 2 t (ix2 r j) = aug (kW m c) r j := by
  rw [← V5_at]
  unfold iblk
  blk_simp [idx t]
  congr 1
  blk_ext [idx t]

/-- The nearest code minus the vector, over the block at `t`. -/
def blkDiff (c : Dev nD) (t : Fin cfg0.N) : FVec Ideal S80x4096 .f32 :=
  k0_pay18 (F := Ideal) (k0_pay3 (iblk m c 0 t))
    (k0_pay16 (k0_pay3 (iblk m c 0 t)) (k0_pay4 (iblk m c 1 t)) (k0_pay5 (iblk m c 0 t)) (k0_pay6 (iblk m c 1 t))
      (k0_pay9 (iblk m c 0 t) (iblk m c 1 t)) (k0_pay10 (iblk m c 0 t) (iblk m c 1 t)))
    (k0_pay17 (k0_pay3 (iblk m c 0 t)) (k0_pay4 (iblk m c 1 t)) (k0_pay5 (iblk m c 0 t)) (k0_pay6 (iblk m c 1 t))
      (k0_pay9 (iblk m c 0 t) (iblk m c 1 t)) (k0_pay10 (iblk m c 0 t) (iblk m c 1 t)) (k0_pay8 (iblk m c 0 t) (iblk m c 1 t)))
    (View.ld (iblk m c 2 t) (Rect.unit ![0, 0] ![81, 256] inb_S81x1024_S81x256_0_0))
    (k0_pay11 (k0_pay10 (iblk m c 0 t) (iblk m c 1 t)))
    (View.ld (iblk m c 2 t) (Rect.unit ![0, 256] ![81, 256] inb_S81x1024_S81x256_0_256))
    (k0_pay13 (k0_pay3 (iblk m c 0 t)) (k0_pay4 (iblk m c 1 t)) (k0_pay5 (iblk m c 0 t)) (k0_pay6 (iblk m c 1 t)))
    (View.ld (iblk m c 2 t) (Rect.unit ![0, 512] ![81, 256] inb_S81x1024_S81x256_0_512))
    (k0_pay15 (k0_pay3 (iblk m c 0 t)) (k0_pay4 (iblk m c 1 t)) (k0_pay5 (iblk m c 0 t)) (k0_pay6 (iblk m c 1 t)))
    (View.ld (iblk m c 2 t) (Rect.unit ![0, 768] ![81, 256] inb_S81x1024_S81x256_0_768))

/-- The block difference where a strictly best score exists. -/
theorem blkDiff_at (c : Dev nD) (t : Fin cfg0.N) {s : Fin 4096} {j : Fin 1024}
    (h : ∀ i, i ≠ j → score (kX m c) (kW m c) (bat t) s i < score (kX m c) (kW m c) (bat t) s j) (k : Fin 80) :
    blkDiff m c t (ix2 k s) = kW m c (ix2 j k) - kX m c (ix3 (bat t) s k) := by
  refine pay18_at (A := aug (kW m c)) (iblk0_at m c t) (iblk1_at m c t) ?_ ?_ ?_ ?_ ?_ ?_ h k
  · intro r i
    rw [← iblk2_at m c t]
    pointwise []
  · intro r i
    rw [← iblk2_at m c t]
    pointwise []
  · intro r i
    rw [← iblk2_at m c t]
    pointwise []
  · intro r i
    rw [← iblk2_at m c t]
    pointwise []
  · intro k i
    exact dif_pos k.isLt
  · intro i
    rfl

/-- What a grid point leaves in the first result's block. -/
theorem out3_at (c : Dev nD) (t : Fin cfg0.N) (y : S1x80x4096.Idx) :
    (outsAt0 m c t).1 y = k0_pay1 (addf (k0_pay3 (iblk m c 0 t)) (blkDiff m c t)) y := by
  unfold outsAt0
  dsimp only
  frame_out
  simp (decide := true) only [↓View.readCov_skip, View.readCov_cons_toLoadRect]
  rfl

/-- What a grid point leaves in the second result's block. -/
theorem out4_at (c : Dev nD) (t : Fin cfg0.N) (y : S1x1x1.Idx) :
    (outsAt0 m c t).2 y = k0_pay2 (blkDiff m c t) := by
  unfold outsAt0
  dsimp only
  frame_out
  simp (decide := true) only [↓View.readCov_skip, View.readCov_cons_toLoadRect]
  rfl

end
end Cert.VQ
-- ==== Proof.Arrays.lean ====
module

public import proofs.«01_k».proof.Proof.Block
public import proofs.«01_k».proof.Proof.Gen.KernelIdeal.Frame
public import Idealize.ShloMosaic.Lib.Pipeline.ReadBack
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.VQ

section
open Cert.KernelIdeal Cert.KernelIdeal.Gen

variable (m : (ℓ : Loc nD τ sig) → Buf (Elt Ideal) ℓ)

/-- A choice of code for every vector whose score is strictly the largest. -/
def Picks (X : Inp) (W : Book) (J : Fin 16 → Fin 4096 → Fin 1024) : Prop :=
  ∀ b s i, i ≠ J b s → score X W b s i < score X W b s (J b s)

/-- The chosen code's coordinate minus the vector's. -/
def diff (X : Inp) (W : Book) (J : Fin 16 → Fin 4096 → Fin 1024) (b : Fin 16) (s : Fin 4096) (k : Fin 80) : EReal :=
  W (ix2 (J b s) k) - X (ix3 b s k)

variable {m} {c : Dev nD} {J : Fin 16 → Fin 4096 → Fin 1024}

/-- The first output array, batch by batch in the kernel's layout. -/
def arr3 (X : Inp) (W : Book) (J : Fin 16 → Fin 4096 → Fin 1024) : FVec Ideal S16x80x4096 .f32 :=
  fun i => X (ix3 (i 0) (i 2) (i 1)) + diff X W J (i 0) (i 2) (i 1)

/-- The first output array of the region. -/
theorem final3 (h : Picks (kX m c) (kW m c) J) : (dats m 0 c).arrAt 3 cfg0.N = arr3 (kX m c) (kW m c) J := by
  refine (dats m 0 c).arrAt_eq_of_covers 3 _ (by decide +kernel) fun t _ y => ?_
  blk_simp
  rw [after0_3, out3_at]
  have e : ∀ (k : Fin 80) (s : Fin 4096), ((View.whole main_v6_0).slice (win0_3.rect t)).emb (ix3 (0 : Fin 1) k s) = ix3 (bat t) k s := fun k s => by
    blk_ext [idx t]
    rfl
  idx_vars y
  obtain rfl : y0 = 0 := Subsingleton.elim _ _
  rw [e]
  rw [pay1_at]
  pointwise []
  rw [pay3_at (iblk0_at m c t), blkDiff_at m c t (h (bat t) _)]
  rfl

/-- The second output array of the region. -/
theorem final4 (h : Picks (kX m c) (kW m c) J) : (dats m 0 c).arrAt 4 cfg0.N = fun i : S16x1x1.Idx =>
    (∑ k, ∑ s, diff (kX m c) (kW m c) J (i 0) s k * diff (kX m c) (kW m c) J (i 0) s k) * ((1 / 4194304 : ℝ) : EReal) := by
  refine (dats m 0 c).arrAt_eq_of_covers 4 _ (by decide +kernel) fun t _ y => ?_
  blk_simp
  rw [after0_4, out4_at, pay2_at]
  have e : ((View.whole main_v6_1).slice (win0_4.rect t)).emb y = ix3 (bat t) (0 : Fin 1) (0 : Fin 1) := by
    blk_ext [idx t]
    rfl
  rw [e]
  simp only [fun s k => blkDiff_at m c t (h (bat t) s) k]
  rfl

/-- The kernel's first result. -/
theorem tail7 (h : Picks (kX m c) (kW m c) J) (b : Fin 16) (s : Fin 4096) (k : Fin 80) :
    (Pipeline.afterTail₀ cfgs (dats m) 0 (V0 m) [hostOps1] c main_v7 : FVec Ideal S16x4096x80 .f32) (ix3 b s k)
      = kX m c (ix3 b s k) + diff (kX m c) (kW m c) J b s k := by
  unfold Pipeline.afterTail₀
  simp only [hostOps1, List.flatten_cons, List.flatten_nil, List.append_nil]
  after_results
  have e := Pipeline.withArrays_arr (τ := τ) (cfgs 0).spec (Pipeline.WinFacts.arr_inj winFacts0) c (V0 m c) (fun w => (dats m 0 c).arrAt w (cfgs 0).N) 3
  erw [e]
  rw [final3 h]
  pointwise []
  rfl

/-- The kernel's second result. -/
theorem tail8 (h : Picks (kX m c) (kW m c) J) :
    (Pipeline.afterTail₀ cfgs (dats m) 0 (V0 m) [hostOps1] c main_v8 : FVec Ideal S_ .f32) ix0
      = ∑ b : Fin 16, (∑ k, ∑ s, diff (kX m c) (kW m c) J b s k * diff (kX m c) (kW m c) J b s k) * ((1 / 4194304 : ℝ) : EReal) := by
  unfold Pipeline.afterTail₀
  simp only [hostOps1, List.flatten_cons, List.flatten_nil, List.append_nil]
  after_results
  have e := Pipeline.withArrays_arr (τ := τ) (cfgs 0).spec (Pipeline.WinFacts.arr_inj winFacts0) c (V0 m c) (fun w => (dats m 0 c).arrAt w (cfgs 0).N) 4
  erw [e]
  rw [final4 h]
  pointwise []
  simp

/-- The run leaves the vectors alone. -/
theorem tail_arg0 (m : (ℓ : Loc nD τ sig) → Buf (Elt Ideal) ℓ) (c : Dev nD) :
    Pipeline.afterTail₀ cfgs (dats m) 0 (V0 m) [hostOps1] c main_arg0 = m (c.tc.loc main_arg0) := by
  unfold Pipeline.afterTail₀
  simp only [hostOps1, List.flatten_cons, List.flatten_nil, List.append_nil]
  after_results
  rw [Pipeline.withArrays_of_ne (τ := τ) (cfgs 0).spec c (V0 m c) _ main_arg0 (by decide)]
  exact V_main_arg0 m c

/-- The run leaves the code book alone. -/
theorem tail_arg1 (m : (ℓ : Loc nD τ sig) → Buf (Elt Ideal) ℓ) (c : Dev nD) :
    Pipeline.afterTail₀ cfgs (dats m) 0 (V0 m) [hostOps1] c main_arg1 = m (c.tc.loc main_arg1) := by
  unfold Pipeline.afterTail₀
  simp only [hostOps1, List.flatten_cons, List.flatten_nil, List.append_nil]
  after_results
  rw [Pipeline.withArrays_of_ne (τ := τ) (cfgs 0).spec c (V0 m c) _ main_arg1 (by decide)]
  exact V_main_arg1 m c

end
end Cert.VQ
-- ==== Proof.PreFacts.lean ====
module

public import proofs.«01_k».proof.Proof.Nearest
public import proofs.«01_k».proof.Proof.Gen.Pre_no_tie
public import Idealize.ShloMosaic.Lib.IndicatorCount
public import Idealize.ShloMosaic.Lib.Affine

@[expose] public section

set_option maxRecDepth 16384

noncomputable section

open Idealize.ShloMosaic

namespace Cert.VQ

section
open Cert.Pre_no_tie
attribute [local instance] Cert.Pre_no_tie.Gen.facts

/-- A conjunction over finitely many bits is one only if every bit is one. -/
theorem fold_andi {ι : Type} [DecidableEq ι] (s : Finset ι) (f : ι → BitVec 1) (h : s.fold IntOp.andi 1#1 f = 1#1) :
    ∀ i ∈ s, f i = 1#1 := by
  induction s using Finset.induction_on with
  | empty => simp
  | insert a s ha ih =>
    rw [Finset.fold_insert ha, IntOp.andi_eq_one] at h
    intro i hi
    rcases Finset.mem_insert.1 hi with rfl | hi
    · exact h.1
    · exact ih h.2 i hi

/-- The same over a whole index type. -/
theorem fold_andi_univ {ι : Type} [DecidableEq ι] [Fintype ι] (f : ι → BitVec 1) (h : Finset.univ.fold IntOp.andi 1#1 f = 1#1) (i : ι) :
    f i = 1#1 := fold_andi _ f h i (Finset.mem_univ i)

/-- If exactly one of the terms equals the fold of minima, then that term is strictly smallest. -/
theorem best_of_count (d : Fin 1024 → EReal)
    (h : Finset.univ.fold IntOp.addi 0#32 (fun i => BitVec.setWidth 32
      (BitVec.ofBool (decide (d i = Finset.univ.fold min ⊤ d)))) = 1#32) :
    ∃ j, ∀ i, i ≠ j → d j < d i := by
  rw [IndicatorCount.fold_addi_setWidth_eq_card] at h
  have hle : (Finset.univ.filter fun i => BitVec.ofBool (decide (d i = Finset.univ.fold min ⊤ d)) = 1#1).card ≤ 1024 :=
    (Finset.card_le_univ _).trans (by simp)
  have h1 : (Finset.univ.filter fun i => BitVec.ofBool (decide (d i = Finset.univ.fold min ⊤ d)) = 1#1).card = 1 := by
    have := congrArg BitVec.toNat h
    simp only [BitVec.toNat_ofNat] at this
    omega
  obtain ⟨j, hj⟩ := Finset.card_eq_one.1 h1
  have hm : ∀ i, d i = Finset.univ.fold min ⊤ d ↔ i = j := fun i => by
    have := Finset.ext_iff.1 hj i
    rw [Finset.mem_filter, Finset.mem_singleton] at this
    rw [← this]
    by_cases hd : d i = Finset.univ.fold min ⊤ d
    · simp only [hd, decide_true]; simp
    · simp only [hd, decide_false]; simp
  refine ⟨j, fun i hi => lt_of_le_of_ne ?_ fun e => hi ((hm i).1 (e ▸ (hm j).2 rfl))⟩
  rw [(hm j).2 rfl]
  exact (Finset.le_fold_min _).1 le_rfl |>.2 i (Finset.mem_univ _)

/-- A value whose absolute value is below infinity is finite. -/
theorem finite_of_abs {x : EReal} (h : BitVec.ofBool (decide (FloatOps.absf (F := Ideal) (φ := .f32) x < (⊤ : EReal))) = 1#1) :
    x ≠ ⊤ ∧ x ≠ ⊥ := by
  have h' : max x (-x) < ⊤ := by
    by_contra hn
    have e : decide (FloatOps.absf (F := Ideal) (φ := .f32) x < (⊤ : EReal)) = false := decide_eq_false hn
    rw [e] at h
    exact absurd h (by decide)
  constructor
  · rintro rfl; exact absurd h' (by simp)
  · rintro rfl; exact absurd h' (by simp)

set_option maxHeartbeats 1000000 in
/-- The precondition says that every distance is finite and that each vector has a strictly nearest code. -/
theorem pre_open (X : Inp) (W : Book) (h : Cert.Pre_no_tie.fn (F := Ideal) X W = fun _ => 1#1) :
    AllFinite X W ∧ ∀ b s, ∃ j, Best X W b s j := by
  have h0 := congrFun h ix0
  unfold fn fn_part1 fn_norm at h0
  pointwise [] at h0
  simp only [two_eq, top_eq] at h0
  obtain ⟨ha, hb⟩ := IntOp.andi_eq_one.1 h0
  have ha' := fold_andi_univ _ ha
  have hb' := fold_andi_univ _ hb
  have hn : ∀ (b : Fin 16) (s : Fin 4096), ∃ n : Fin 65536, n.val / 4096 = b.val ∧ n.val % 4096 = s.val :=
    fun b s => ⟨⟨b.val * 4096 + s.val, by have := b.isLt; have := s.isLt; omega⟩,
      by have := s.isLt; show (b.val * 4096 + s.val) / 4096 = _; omega, by have := s.isLt; show (b.val * 4096 + s.val) % 4096 = _; omega⟩
  clear h h0 ha hb
  constructor
  · intro b s j
    obtain ⟨n, h1, h2⟩ := hn b s
    have := finite_of_abs (ha' (n, j))
    simp only [h1, h2] at this
    exact this
  · intro b s
    obtain ⟨n, h1, h2⟩ := hn b s
    refine best_of_count (fun j => dist X W b s j) ?_
    have := IntOp.cmpi_eq.1 (hb' n)
    simp only [h1, h2] at this
    exact this

end
end Cert.VQ
-- ==== Proof.Lookup.lean ====
module

public import proofs.«01_k».proof.Proof.Nearest
public import proofs.«01_k».proof.Proof.Gen.ReferenceIdeal

@[expose] public section

set_option maxRecDepth 16384

noncomputable section

open Idealize.ShloMosaic

namespace Cert.VQ

section
open Cert.ReferenceIdeal Cert.ReferenceIdeal.Facts₀ Cert.ReferenceIdeal.Facts
attribute [local instance] Cert.ReferenceIdeal.Gen.facts

/-- One step of the arg-max: the pair kept is the one with the larger value. -/
theorem step_keep {a b : EReal × BitVec 32} (h : b.1 < a.1) : reducer_argmax_f32_i32 (F := Ideal) a b = a := by
  have h1 : (FloatOps.cmpf .ogt (F := Ideal) (φ := .f32) a.1 b.1) = 1#1 := by
    show BitVec.ofBool (decide (b.1 < a.1)) = 1#1
    rw [decide_eq_true h]; rfl
  have h2 : ∀ x : BitVec 1, IntOp.ori 1#1 x = 1#1 := by decide
  simp only [reducer_argmax_f32_i32, h1, h2, Scalar.select]
  rfl

/-- The other case: the new pair has the larger value. -/
theorem step_take {a b : EReal × BitVec 32} (h : a.1 < b.1) : reducer_argmax_f32_i32 (F := Ideal) a b = b := by
  have h1 : (FloatOps.cmpf .ogt (F := Ideal) (φ := .f32) a.1 b.1) = 0#1 := by
    show BitVec.ofBool (decide (b.1 < a.1)) = 0#1
    rw [decide_eq_false h.not_gt]; rfl
  have h2 : (FloatOps.cmpf .une (F := Ideal) (φ := .f32) a.1 a.1) = 0#1 := by
    show BitVec.ofBool (decide (a.1 ≠ a.1)) = 0#1
    rw [decide_eq_false (fun hn => hn rfl)]; rfl
  have h3 : (FloatOps.cmpf .oeq (F := Ideal) (φ := .f32) a.1 b.1) = 0#1 := by
    show BitVec.ofBool (decide (a.1 = b.1)) = 0#1
    rw [decide_eq_false h.ne]; rfl
  have h4 : ∀ x : BitVec 1, IntOp.andi 0#1 x = 0#1 := by decide
  have h5 : IntOp.ori 0#1 0#1 = 0#1 := by decide
  simp only [reducer_argmax_f32_i32, h1, h2, h3, h4, h5, Scalar.select]
  rfl

/-- A step on a pair and itself changes nothing. -/
theorem step_self (a : EReal × BitVec 32) : reducer_argmax_f32_i32 (F := Ideal) a a = a := by
  simp only [reducer_argmax_f32_i32, Scalar.select]
  refine Prod.ext ?_ ?_ <;> split_ifs <;> rfl

/-- A step's value is one of the two values. -/
theorem step_lt {a b : EReal × BitVec 32} {M : EReal} (ha : a.1 < M) (hb : b.1 < M) : (reducer_argmax_f32_i32 (F := Ideal) a b).1 < M := by
  simp only [reducer_argmax_f32_i32, Scalar.select]
  split_ifs
  · exact ha
  · exact hb

/-- Folding the arg-max over pairs of which one alone has the largest value ends at that pair. -/
theorem foldl_argmax (p : EReal × BitVec 32) : ∀ (l : List (EReal × BitVec 32)) (a : EReal × BitVec 32),
    (∀ q ∈ l, q = p ∨ q.1 < p.1) → (a = p ∨ (a.1 < p.1 ∧ p ∈ l)) → l.foldl (reducer_argmax_f32_i32 (F := Ideal)) a = p
  | [], a, _, h => h.elim id fun h => absurd h.2 List.not_mem_nil
  | q :: l, a, hl, h => by
    rw [List.foldl_cons]
    refine foldl_argmax p l _ (fun r hr => hl r (List.mem_cons_of_mem _ hr)) ?_
    rcases h with rfl | ⟨ha, hp⟩
    · left
      rcases hl q List.mem_cons_self with rfl | hq
      · exact step_self _
      · exact step_keep hq
    · rcases hl q List.mem_cons_self with rfl | hq
      · left; exact step_take ha
      · right
        refine ⟨step_lt ha hq, (List.mem_cons.1 hp).resolve_left fun e => ?_⟩
        rw [e] at hq; exact lt_irrefl _ hq

/-- Every index that reduces into `j` gives a pair of the fiber. -/
theorem mem_fiber {α β : Type} {s t : Shape} {axes : List (Fin s.rank)} (x : s.Idx → α) (y : s.Idx → β) (h : s.ReducesTo axes t)
    (i : s.Idx) : (x i, y i) ∈ Host.argReduceFiber x y h (h.drop i) := by
  refine List.mem_map.2 ⟨s.rowMajor i, List.mem_filter.2 ⟨List.mem_finRange _, decide_eq_true ?_⟩, ?_⟩
  · rw [Equiv.symm_apply_apply]
  · rw [Equiv.symm_apply_apply]

/-- Every pair of the fiber comes from such an index. -/
theorem of_mem_fiber {α β : Type} {s t : Shape} {axes : List (Fin s.rank)} (x : s.Idx → α) (y : s.Idx → β) (h : s.ReducesTo axes t)
    (j : t.Idx) (q : α × β) (hq : q ∈ Host.argReduceFiber x y h j) : ∃ i, h.drop i = j ∧ q = (x i, y i) := by
  obtain ⟨r, hr, rfl⟩ := List.mem_map.1 hq
  exact ⟨_, of_decide_eq_true (List.mem_filter.1 hr).2, rfl⟩

/-- The arg-max along the last axis, at a row whose largest value is strictly the largest. -/
theorem argmax_at (x : FVec Ideal S65536x1024 .f32) (n : Fin 65536) (j : Fin 1024) (hj : ⊥ < x (ix2 n j))
    (h : ∀ i, i ≠ j → x (ix2 n i) < x (ix2 n j)) :
    (Host.argReduce reducer_argmax_f32_i32 x (iotaInDim S65536x1024 32 1) (constant S_ .f32 0xFF800000#32) (constantI S_ 32 0#32)
      reducesTo_S65536x1024_S65536_d1 h_S_ (ix1 n)).2 = BitVec.ofNat 32 j.val := by
  rw [Ideal.argReduce_eq_reduce2, Host.reduce2_eq_foldl_fiber]
  have hd : ∀ (n' : Fin 65536) (k : Fin 1024), Shape.ReducesTo.drop reducesTo_S65536x1024_S65536_d1 (ix2 n' k) = ix1 n' := fun n' k => by
    funext a
    obtain rfl : a = 0 := Subsingleton.elim _ _
    rfl
  have hi : ∀ k : Fin 1024, iotaInDim S65536x1024 32 1 (ix2 n k) = BitVec.ofNat 32 k.val := fun k => rfl
  rw [foldl_argmax (x (ix2 n j), BitVec.ofNat 32 j.val)]
  · intro q hq
    obtain ⟨i, hr', rfl⟩ := of_mem_fiber _ _ _ _ _ hq
    idx_vars i
    rw [hd] at hr'
    obtain rfl : i0 = n := congrFun hr' 0
    by_cases hk : i1 = j
    · left; rw [hk, hi]
    · right; exact h i1 hk
  · right
    constructor
    · show Ideal.ofBits .f32 0xFF800000#32 < _
      rw [bot_eq]; exact hj
    · have := mem_fiber x (iotaInDim S65536x1024 32 1) reducesTo_S65536x1024_S65536_d1 (ix2 n j)
      rwa [hd, hi] at this

/-- How the gather finds its rows. -/
abbrev gd : GatherDims S1024x80 S16x4096x1 S16x4096x80 := gather_S1024x80_S16x4096x1_S16x4096x80_2_0_n_n_0_2_180

/-- The gather reads the row named by its start index, clamped into range. -/
theorem gather_at (x : FVec Ideal S1024x80 .f32) (idx : IVec S16x4096x1 32) (b : Fin 16) (s : Fin 4096) (k : Fin 80) :
    Host.gather gd x idx (ix3 b s k) = x (ix2 ⟨min (idx (ix3 b s (0 : Fin 1))).toInt.toNat 1023, by omega⟩ k) := by
  unfold Host.gather
  congr 1
  funext a
  refine Fin.ext ?_
  match a with
  | ⟨0, _⟩ =>
    show GatherDims.start gd (ix3 b s k) idx 0 + GatherDims.batchCoord gd (ix3 b s k) 0 + GatherDims.offCoord gd (ix3 b s k) 0 = _
    rw [GatherDims.batchCoord_eq_zero _ _ _ List.not_mem_nil,
      GatherDims.offCoord_eq_zero _ _ _ (fun h => ((GatherDims.mem_sKept _ _).mp h).1 (List.mem_singleton.mpr rfl))]
    unfold GatherDims.start
    rw [dif_pos (show (0 : Fin 2) ∈ GatherDims.startIndexMap gd from List.mem_singleton.mpr rfl)]
    have hsi : GatherDims.siIdx gd (ix3 b s k) ⟨List.idxOf (0 : Fin 2) (GatherDims.startIndexMap gd),
        List.idxOf_lt_length_iff.2 (List.mem_singleton.mpr rfl)⟩ = ix3 b s (0 : Fin 1) := by
      funext e; refine Fin.ext ?_
      match e with
      | ⟨0, _⟩ => rfl
      | ⟨1, _⟩ => rfl
      | ⟨2, _⟩ => rfl
    erw [hsi]
    rfl
  | ⟨1, _⟩ =>
    show GatherDims.start gd (ix3 b s k) idx 1 + GatherDims.batchCoord gd (ix3 b s k) 1 + GatherDims.offCoord gd (ix3 b s k) 1 = _
    rw [GatherDims.batchCoord_eq_zero _ _ _ List.not_mem_nil]
    unfold GatherDims.start
    rw [dif_neg (show (1 : Fin 2) ∉ GatherDims.startIndexMap gd from by decide)]
    simp only [Nat.zero_add]
    rfl

end
end Cert.VQ
-- ==== Proof.RefRun.lean ====
module

public import proofs.«01_k».proof.Defs
public import proofs.«01_k».proof.Proof.Lookup
public import Idealize.ShloMosaic.Lib.Claim
public import Idealize.ShloMosaic.Lib.StableHlo.RunRead

@[expose] public section

set_option maxRecDepth 16384

noncomputable section

open Idealize.ShloMosaic Idealize.SL.Sem

namespace Cert.VQ

section
open Cert.ReferenceIdeal Cert.ReferenceIdeal.Facts₀ Cert.ReferenceIdeal.Facts
attribute [local instance] Cert.ReferenceIdeal.Gen.facts

/-- The code book transposed. -/
def refT (W : Book) : FVec Ideal S80x1024 .f32 := transpose S80x1024 [1, 0] W transposes_S1024x80_S80x1024_1_0

/-- The reference's normalized codes. -/
def refEnc (W : Book) : FVec Ideal S80x1024 .f32 :=
  Host.divf (refT W) (broadcastInDim S80x1024 ![0, 1] bcast_S1x1024_S80x1024_0_1
    (broadcastInDim S1x1024 ![1] bcast_S1024_S1x1024_1
      (Host.sqrt (Host.reduceAdd (mulf (refT W) (refT W)) (constant S_ .f32 0x00000000#32) reducesTo_S80x1024_S1024_d0 h_S_))))

/-- The vectors in one list. -/
def refFlat (X : Inp) : FVec Ideal S65536x80 .f32 := shapeCast S65536x80 X shapeCasts_S16x4096x80_S65536x80

/-- The reference's negated distances. -/
def refNeg (X : Inp) (E : FVec Ideal S80x1024 .f32) : FVec Ideal S65536x1024 .f32 :=
  Host.negf (addf
    (subf
      (broadcastInDim S65536x1024 ![0, 1] bcast_S65536x1_S65536x1024_0_1
        (broadcastInDim S65536x1 ![0] bcast_S65536_S65536x1_0
          (Host.reduceAdd (mulf (refFlat X) (refFlat X)) (constant S_ .f32 0x00000000#32) reducesTo_S65536x80_S65536_d1 h_S_)))
      (Host.dotGeneral dot_S65536x80_S80x1024_S65536x1024_1_0_0_1_n_n none
        (mulf (broadcastInDim S65536x80 ![] bcast_S_S65536x80 (constant S_ .f32 0x40000000#32)) (refFlat X)) E))
    (broadcastInDim S65536x1024 ![0, 1] bcast_S1x1024_S65536x1024_0_1
      (broadcastInDim S1x1024 ![1] bcast_S1024_S1x1024_1
        (Host.reduceAdd (mulf E E) (constant S_ .f32 0x00000000#32) reducesTo_S80x1024_S1024_d0 h_S_))))

/-- The codes that the reference chooses from the negated distances. -/
def refIdx (x : FVec Ideal S65536x1024 .f32) : IVec S16x4096 32 :=
  shapeCast S16x4096 (fun j => (Host.argReduce reducer_argmax_f32_i32 x (iotaInDim S65536x1024 32 1) (constant S_ .f32 0xFF800000#32)
    (constantI S_ 32 0#32) reducesTo_S65536x1024_S65536_d1 h_S_ j).2) shapeCasts_S65536_S16x4096

/-- A negative number of a code counted from the end. -/
def refWrap (n : IVec S16x4096 32) : IVec S16x4096x1 32 :=
  broadcastInDim S16x4096x1 ![0, 1] bcast_S16x4096_S16x4096x1_0_1
    (select (cmpi .slt n (broadcastInDim S16x4096 ![] bcast_S_S16x4096 (constantI S_ 32 0#32)))
      (addi n (broadcastInDim S16x4096 ![] bcast_S_S16x4096 (constantI S_ 32 1024#32))) n)

/-- The rows of the code book at those numbers. -/
def refTake (W : Book) (n : IVec S16x4096 32) : FVec Ideal S16x4096x80 .f32 :=
  select
    (broadcastInDim S16x4096x80 ![0, 1] bcast_S16x4096_S16x4096x80_0_1
      (Host.reduce IntOp.andi
        (andi (cmpi .sge (refWrap n) (broadcastInDim S16x4096x1 ![] bcast_S_S16x4096x1 (constantI S_ 32 0#32)))
          (cmpi .sle (refWrap n) (broadcastInDim S16x4096x1 ![0, 1, 2] bcast_S1x1x1_S16x4096x1_0_1_2
            (broadcastInDim S1x1x1 ![2] bcast_S1_S1x1x1_2 (constantI S1 32 1023#32)))))
        (constantI S_ 1 1#1) reducesTo_S16x4096x1_S16x4096_d2 h_S_))
    (Host.gather gd W (refWrap n))
    (broadcastInDim S16x4096x80 ![] bcast_S_S16x4096x80 (constant S_ .f32 0x7FC00000#32))

/-- The mean of the squared differences. -/
def refMean (X Q : Inp) : FVec Ideal S_ .f32 :=
  Host.divf (Host.reduceAdd (mulf (subf Q X) (subf Q X)) (constant S_ .f32 0x00000000#32) reducesTo_S16x4096x80_S_d0_1_2 h_S_)
    (constant S_ .f32 0x4AA00000#32)

/-- The reference's second result from the chosen codes. -/
def refLoss (X Q : Inp) : FVec Ideal S_ .f32 :=
  addf (refMean X Q) (mulf (constant S_ .f32 0x3E800000#32) (refMean X Q))

/-- The codes the reference takes. -/
def refQ (X : Inp) (W : Book) : Inp := refTake W (refIdx (refNeg X (refEnc W)))

/-- The reference's program as a list of operations. -/
def refLine : {ops : List (HloOp τ sig (Elt Ideal)) // ∀ d : Dev nD, StableHlo.IsSeq (main (F := Ideal) d) ops} :=
  by
  apply Subtype.mk
  hlo_seq

/-- A line of operations run in two parts. -/
theorem after_cut {τ' : Topo} {sig' : RefSig} {Val : EltTy → Type} (ops : List (HloOp τ' sig' Val)) (n : ℕ) (V : Valuation τ' sig' Val) :
    StableHlo.after ops V = StableHlo.after (ops.drop n) (StableHlo.after (ops.take n) V) := by
  induction n generalizing ops V with
  | zero => rfl
  | succ n ih =>
    cases ops with
    | nil => rfl
    | cons op l => exact ih l _

/-- The first part: the normalized code book. -/
abbrev partA : List (HloOp τ sig (Elt Ideal)) := refLine.1.take 8
/-- The second part: the negated distances. -/
abbrev partB : List (HloOp τ sig (Elt Ideal)) := (refLine.1.drop 8).take 18
/-- The third part: the chosen numbers. -/
abbrev partC : List (HloOp τ sig (Elt Ideal)) := (refLine.1.drop 26).take 6
/-- The fourth part: the chosen codes. -/
abbrev partD : List (HloOp τ sig (Elt Ideal)) := (refLine.1.drop 32).take 23
/-- The last part: the two results. -/
abbrev partE : List (HloOp τ sig (Elt Ideal)) := refLine.1.drop 55

/-- The whole line is its five parts one after another. -/
theorem line_parts (V : Valuation τ sig (Elt Ideal)) :
    StableHlo.after refLine.1 V = StableHlo.after partE (StableHlo.after partD (StableHlo.after partC (StableHlo.after partB (StableHlo.after partA V)))) := by
  rw [after_cut refLine.1 8, after_cut (refLine.1.drop 8) 18, after_cut ((refLine.1.drop 8).drop 18) 6,
    after_cut (((refLine.1.drop 8).drop 18).drop 6) 23]
  simp only [List.drop_drop]

variable (V : Valuation τ sig (Elt Ideal))

/-- The first part leaves the normalized code book. -/
theorem partA_v4 : StableHlo.after partA V (Proc.devRef .tc main_v4) = refEnc (V (Proc.devRef .tc main_arg1)) := by
  after_reads_simp
  rfl

/-- The first part leaves the vectors unchanged. -/
theorem partA_arg0 : StableHlo.after partA V (Proc.devRef .tc main_arg0) = V (Proc.devRef .tc main_arg0) := by
  after_reads_simp

/-- The first part leaves the code book unchanged. -/
theorem partA_arg1 : StableHlo.after partA V (Proc.devRef .tc main_arg1) = V (Proc.devRef .tc main_arg1) := by
  after_reads_simp

/-- The second part leaves the negated distances. -/
theorem partB_v19 : StableHlo.after partB V (Proc.devRef .tc main_v19)
    = refNeg (V (Proc.devRef .tc main_arg0)) (V (Proc.devRef .tc main_v4)) := by
  after_reads_simp
  rfl

/-- The second part leaves the vectors unchanged. -/
theorem partB_arg0 : StableHlo.after partB V (Proc.devRef .tc main_arg0) = V (Proc.devRef .tc main_arg0) := by
  after_reads_simp

/-- The second part leaves the code book unchanged. -/
theorem partB_arg1 : StableHlo.after partB V (Proc.devRef .tc main_arg1) = V (Proc.devRef .tc main_arg1) := by
  after_reads_simp

/-- The third part over any two functions in the place of the choice. -/
theorem choose_line
    (f : FVec Ideal S65536x1024 .f32 → IVec S65536x1024 32 → FVec Ideal S_ .f32 → IVec S_ 32 → FVec Ideal S65536 .f32)
    (h : FVec Ideal S65536x1024 .f32 → IVec S65536x1024 32 → FVec Ideal S_ .f32 → IVec S_ 32 → IVec S65536 32) :
    StableHlo.after (τ := τ)
      [StableHlo.TRef.nullary main_call1.v0 (iotaInDim S65536x1024 32 1),
        StableHlo.TRef.nullary main_call1.cst (constant (F := Ideal) S_ .f32 0xFF800000#32),
        StableHlo.TRef.nullary main_call1.c (constantI S_ 32 0#32),
        StableHlo.TRef.quaternary (.of main_v19) main_call1.v0 main_call1.cst main_call1.c main_call1.v1_0 f,
        StableHlo.TRef.quaternary (.of main_v19) main_call1.v0 main_call1.cst main_call1.c main_call1.v1_1 h,
        StableHlo.reshape main_v20 main_v21 (rfl : (.i32 : EltTy) = .i32) shapeCasts_S65536_S16x4096] V (Proc.devRef .tc main_v21)
      = shapeCast S16x4096 (h (V (Proc.devRef .tc main_v19)) (iotaInDim S65536x1024 32 1) (constant S_ .f32 0xFF800000#32) (constantI S_ 32 0#32))
        shapeCasts_S65536_S16x4096 := by
  after_reads_simp
  rfl

/-- The third part leaves the numbers of the chosen codes. -/
theorem partC_v21 : StableHlo.after partC V (Proc.devRef .tc main_v21) = refIdx (V (Proc.devRef .tc main_v19)) :=
  choose_line V _ (fun x y u v j => (Host.argReduce reducer_argmax_f32_i32 x y u v reducesTo_S65536x1024_S65536_d1 h_S_ j).2)

/-- The third part leaves the vectors unchanged. -/
theorem partC_arg0 : StableHlo.after partC V (Proc.devRef .tc main_arg0) = V (Proc.devRef .tc main_arg0) := by
  after_reads_simp

/-- The third part leaves the code book unchanged. -/
theorem partC_arg1 : StableHlo.after partC V (Proc.devRef .tc main_arg1) = V (Proc.devRef .tc main_arg1) := by
  after_reads_simp

/-- The fourth part leaves the chosen codes. -/
theorem partD_v22 : StableHlo.after partD V (Proc.devRef .tc main_v22)
    = refTake (V (Proc.devRef .tc main_arg1)) (V (Proc.devRef .tc main_v21)) := by
  after_reads_simp
  simp -implicitDefEqProofs only [StableHlo.TRef.ofBuf_toBuf]
  simp -implicitDefEqProofs only [StableHlo.TRef.ofBuf, StableHlo.TRef.toBuf, cast_eq]
  simp -implicitDefEqProofs only [refTake, refWrap, gd]

/-- The fourth part leaves the vectors unchanged. -/
theorem partD_arg0 : StableHlo.after partD V (Proc.devRef .tc main_arg0) = V (Proc.devRef .tc main_arg0) := by
  after_reads_simp

/-- The fourth part leaves the code book unchanged. -/
theorem partD_arg1 : StableHlo.after partD V (Proc.devRef .tc main_arg1) = V (Proc.devRef .tc main_arg1) := by
  after_reads_simp

/-- The last part leaves the first result, the vectors plus the differences. -/
theorem partE_v34 : StableHlo.after partE V (Proc.devRef .tc main_v34)
    = addf (F := Ideal) (s := S16x4096x80) (φ := .f32) (V (Proc.devRef .tc main_arg0))
      (subf (V (Proc.devRef .tc main_v22)) (V (Proc.devRef .tc main_arg0))) := by
  after_reads_simp

/-- The last part leaves the second result, the loss. -/
theorem partE_v32 : StableHlo.after partE V (Proc.devRef .tc main_v32)
    = refLoss (V (Proc.devRef .tc main_arg0)) (V (Proc.devRef .tc main_v22)) := by
  after_reads_simp
  rfl

/-- The last part leaves the vectors unchanged. -/
theorem partE_arg0 : StableHlo.after partE V (Proc.devRef .tc main_arg0) = V (Proc.devRef .tc main_arg0) := by
  after_reads_simp

/-- The last part leaves the code book unchanged. -/
theorem partE_arg1 : StableHlo.after partE V (Proc.devRef .tc main_arg1) = V (Proc.devRef .tc main_arg1) := by
  after_reads_simp

/-- What the reference's run leaves in its results and arguments. -/
theorem ref_run (m' : (ℓ : Loc nD τ sig) → Buf (Elt Ideal) ℓ) (g' : Dev nD → PrngReg) :
    θ_run (defs (F := Ideal)) (onTc (τ := τ) (main (F := Ideal))) ⟨m', fun _ => 0, g'⟩ (fun r => ∀ c : Dev nD,
      r.2.mem ((c.tc : Thread nD τ).loc main_v34)
        = addf (F := Ideal) (s := S16x4096x80) (φ := .f32) (m' ((c.tc : Thread nD τ).loc main_arg0))
          (subf (refQ (m' ((c.tc : Thread nD τ).loc main_arg0)) (m' ((c.tc : Thread nD τ).loc main_arg1))) (m' ((c.tc : Thread nD τ).loc main_arg0)))
      ∧ r.2.mem ((c.tc : Thread nD τ).loc main_v32)
        = refLoss (m' ((c.tc : Thread nD τ).loc main_arg0)) (refQ (m' ((c.tc : Thread nD τ).loc main_arg0)) (m' ((c.tc : Thread nD τ).loc main_arg1)))
      ∧ r.2.mem ((c.tc : Thread nD τ).loc main_arg0) = m' ((c.tc : Thread nD τ).loc main_arg0)
      ∧ r.2.mem ((c.tc : Thread nD τ).loc main_arg1) = m' ((c.tc : Thread nD τ).loc main_arg1)) := by
  refine θ_run_mono (StableHlo.run_hlo (ops := refLine.1) _ _ refLine.2 (by decide) (by decide) (by simp [refLine])
    (by unfold refLine; intro _ h; (repeat (cases h with | head => rfl | tail _ h => ?_)); exact nomatch h) _ _) ?_
  intro r hr c
  refine ⟨?_, ?_, ?_, ?_⟩
  · refine (hr c main_v34).trans ?_
    rw [line_parts, partE_v34, partD_v22, partD_arg0, partC_v21, partC_arg0, partC_arg1, partB_v19, partB_arg0, partB_arg1,
      partA_v4, partA_arg0, partA_arg1]
    rfl
  · refine (hr c main_v32).trans ?_
    rw [line_parts, partE_v32, partD_v22, partD_arg0, partC_v21, partC_arg0, partC_arg1, partB_v19, partB_arg0, partB_arg1,
      partA_v4, partA_arg0, partA_arg1]
    rfl
  · refine (hr c main_arg0).trans ?_
    rw [line_parts, partE_arg0, partD_arg0, partC_arg0, partB_arg0, partA_arg0]
  · refine (hr c main_arg1).trans ?_
    rw [line_parts, partE_arg1, partD_arg1, partC_arg1, partB_arg1, partA_arg1]

end
end Cert.VQ
-- ==== Proof.RefValue.lean ====
module

public import proofs.«01_k».proof.Proof.RefRun
public import proofs.«01_k».proof.Proof.Nearest

@[expose] public section

set_option maxRecDepth 16384

noncomputable section

open Idealize.ShloMosaic Idealize.SL.Sem

namespace Cert.VQ

section
open Cert.ReferenceIdeal Cert.ReferenceIdeal.Facts₀ Cert.ReferenceIdeal.Facts
attribute [local instance] Cert.ReferenceIdeal.Gen.facts

/-- The reference's normalized code book, entry by entry. -/
theorem refEnc_at (W : Book) (k : Fin 80) (j : Fin 1024) : refEnc W (ix2 k j) = enc W j k := by
  unfold refEnc refT
  pointwise []
  rfl

/-- A negated distance of the reference is the negation of the distance. -/
theorem refNeg_at (X : Inp) (W : Book) (n : Fin 65536) (j : Fin 1024) :
    refNeg X (refEnc W) (ix2 n j)
      = -dist X W ⟨n.val / 4096, by omega⟩ ⟨n.val % 4096, by omega⟩ j := by
  unfold refNeg refFlat
  pointwise []
  simp only [refEnc_at, two_eq]
  rfl

/-- The words that the reference compares the number of a code with. -/
theorem words : ∀ j : Fin 1024, IntOp.cmpi .slt (BitVec.ofNat 32 j.val) 0#32 = 0#1 ∧ IntOp.cmpi .sge (BitVec.ofNat 32 j.val) 0#32 = 1#1
    ∧ IntOp.cmpi .sle (BitVec.ofNat 32 j.val) 1023#32 = 1#1 ∧ (BitVec.ofNat 32 j.val).toInt.toNat = j.val := by
  decide +kernel

/-- A number in range is not counted from the end. -/
theorem refWrap_at (n : IVec S16x4096 32) (b : Fin 16) (s : Fin 4096) (z : Fin 1) (j : Fin 1024)
    (h : n (ix2 b s) = BitVec.ofNat 32 j.val) : refWrap n (ix3 b s z) = BitVec.ofNat 32 j.val := by
  unfold refWrap
  pointwise []
  rw [h, (words j).1]
  rfl

/-- The reference takes the row that the number names. -/
theorem refTake_at (W : Book) (n : IVec S16x4096 32) (b : Fin 16) (s : Fin 4096) (k : Fin 80) (j : Fin 1024)
    (h : n (ix2 b s) = BitVec.ofNat 32 j.val) : refTake W n (ix3 b s k) = W (ix2 j k) := by
  unfold refTake
  pointwise []
  simp only [gather_at, refWrap_at n b s _ j h, (words j).2.1, (words j).2.2.1, (words j).2.2.2]
  rw [show Finset.univ.fold IntOp.andi 1#1 (fun _ : Fin 1 => IntOp.andi 1#1 1#1) = 1#1 by decide]
  have e : (⟨min j.val 1023, by omega⟩ : Fin 1024) = j := Fin.ext (by show min j.val 1023 = j.val; omega)
  rw [e]
  rfl

/-- An entry of the list of numbers laid out by batch. -/
theorem layout_at (y : IVec S65536 32) (b : Fin 16) (s : Fin 4096) (n : Fin 65536) (hn : n.val = b.val * 4096 + s.val) :
    shapeCast S16x4096 y shapeCasts_S65536_S16x4096 (ix2 b s) = y (ix1 n) := by
  pointwise []
  exact congrArg y (congrArg ix1 (Fin.ext hn.symm))

/-- The reference's number is that of the strictly largest entry. -/
theorem refIdx_at (x : FVec Ideal S65536x1024 .f32) (b : Fin 16) (s : Fin 4096) (n : Fin 65536) (hn : n.val = b.val * 4096 + s.val)
    (j : Fin 1024) (hj : ⊥ < x (ix2 n j)) (h : ∀ i, i ≠ j → x (ix2 n i) < x (ix2 n j)) :
    refIdx x (ix2 b s) = BitVec.ofNat 32 j.val :=
  (layout_at _ b s n hn).trans (argmax_at x n j hj h)

/-- With a strictly nearest code at every vector the reference takes that code. -/
theorem refQ_at (X : Inp) (W : Book) (J : Fin 16 → Fin 4096 → Fin 1024) (hf : AllFinite X W) (hJ : ∀ b s, Best X W b s (J b s))
    (b : Fin 16) (s : Fin 4096) (k : Fin 80) : refQ X W (ix3 b s k) = W (ix2 (J b s) k) := by
  have hn : b.val * 4096 + s.val < 65536 := by omega
  have e1 : (⟨(b.val * 4096 + s.val) / 4096, by omega⟩ : Fin 16) = b := Fin.ext (by show (b.val * 4096 + s.val) / 4096 = b.val; omega)
  have e2 : (⟨(b.val * 4096 + s.val) % 4096, by omega⟩ : Fin 4096) = s := Fin.ext (by show (b.val * 4096 + s.val) % 4096 = s.val; omega)
  have hv : ∀ i, refNeg X (refEnc W) (ix2 (⟨b.val * 4096 + s.val, hn⟩ : Fin 65536) i) = -dist X W b s i := fun i => by
    have h := refNeg_at X W ⟨b.val * 4096 + s.val, hn⟩ i
    rw [h]
    show -dist X W ⟨(b.val * 4096 + s.val) / 4096, _⟩ ⟨(b.val * 4096 + s.val) % 4096, _⟩ i = _
    rw [e1, e2]
  refine refTake_at W _ b s k (J b s) (refIdx_at _ b s ⟨b.val * 4096 + s.val, hn⟩ rfl (J b s) ?_ fun i hi => ?_)
  · rw [hv]
    exact bot_lt_iff_ne_bot.2 fun h => (hf b s (J b s)).1 (EReal.neg_eq_bot_iff.1 h)
  · rw [hv, hv]
    exact EReal.neg_lt_neg_iff.2 (hJ b s i hi)

/-- The reference's loss is the sum of the squared differences times 1/4194304. -/
theorem refLoss_at (X Q : Inp) :
    refLoss X Q ix0 = (∑ b : Fin 16, ∑ s : Fin 4096, ∑ k : Fin 80, (Q (ix3 b s k) - X (ix3 b s k)) * (Q (ix3 b s k) - X (ix3 b s k)))
      * ((1 / 4194304 : ℝ) : EReal) := by
  unfold refLoss refMean
  pointwise []
  simp only [quarter_eq, count_eq]
  exact loss_scale _

end
end Cert.VQ
-- ==== Proof.Equation.lean ====
module

public import proofs.«01_k».proof.Proof.Arrays
public import proofs.«01_k».proof.Proof.PreFacts
public import proofs.«01_k».proof.Proof.RefValue

@[expose] public section

set_option maxRecDepth 16384

noncomputable section

open Idealize.ShloMosaic Idealize.SL.Sem

namespace Cert.VQ

/-- A strictly nearest code has the strictly largest score, where every distance is finite. -/
theorem picks_of_best {X : Inp} {W : Book} {J : Fin 16 → Fin 4096 → Fin 1024} (hf : AllFinite X W) (hJ : ∀ b s, Best X W b s (J b s)) :
    Picks X W J := fun b s i hi => by
  rw [score_eq hf, score_eq hf]
  exact EReal.neg_lt_neg_iff.2 (hJ b s i hi)

section
open Cert.KernelIdeal Cert.KernelIdeal.Gen
attribute [local instance] Cert.KernelIdeal.Gen.facts Cert.Pre_no_tie.Gen.facts

variable (m : (ℓ : Loc nD τ sig) → Buf (Elt Ideal) ℓ) (c : Dev nD)

/-- The kernel's first result is the reference's. -/
theorem first_eq (h : Cert.Pre_no_tie.fn (F := Ideal) (kX m c) (kW m c) = fun _ => 1#1) :
    addf (F := Ideal) (s := S16x4096x80) (φ := .f32) (kX m c) (subf (refQ (kX m c) (kW m c)) (kX m c))
      = (Pipeline.afterTail₀ cfgs (dats m) 0 (V0 m) [hostOps1] c main_v7 : FVec Ideal S16x4096x80 .f32) := by
  obtain ⟨hf, hb⟩ := pre_open _ _ h
  choose J hJ using hb
  funext i
  idx_vars i
  rw [tail7 (picks_of_best hf hJ)]
  show kX m c (ix3 _ _ _) + (refQ (kX m c) (kW m c) (ix3 _ _ _) - kX m c (ix3 _ _ _)) = _
  rw [refQ_at _ _ J hf hJ]
  rfl

/-- The kernel's second result is the reference's. -/
theorem second_eq (h : Cert.Pre_no_tie.fn (F := Ideal) (kX m c) (kW m c) = fun _ => 1#1) :
    refLoss (kX m c) (refQ (kX m c) (kW m c))
      = (Pipeline.afterTail₀ cfgs (dats m) 0 (V0 m) [hostOps1] c main_v8 : FVec Ideal S_ .f32) := by
  obtain ⟨hf, hb⟩ := pre_open _ _ h
  choose J hJ using hb
  funext i
  obtain rfl : i = ix0 := Subsingleton.elim _ _
  rw [tail8 (picks_of_best hf hJ), refLoss_at, sum_mul_real _ _ (by norm_num)]
  refine Finset.sum_congr rfl fun b _ => ?_
  rw [Finset.sum_comm]
  simp only [refQ_at _ _ J hf hJ]
  rfl

end
end Cert.VQ
-- ==== Proof.lean ====
/- The claims about nearest-code vector quantisation: the frames of the kernel, of its ideal reading and of the reference, and the
   equality of the two results of kernel and reference over the extended reals. The mathematics is in the modules under Proof/:
   Spec, Nearest (facts of numbers), Chunk, Block, Arrays (the kernel), PreFacts (the precondition), Lookup, RefRun, RefValue
   (the reference) and Equation (the two together). -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_no_tie
public import Idealize.ShloMosaic.Adequacy
public import Idealize.ShloMosaic.Init
public import Idealize.ShloMosaic.Lib.Claim
public import Idealize.ShloMosaic.Lib.Quiescent
public import proofs.«01_k».proof.Proof.Equation

@[expose] public section

noncomputable section

namespace Cert.Proof

open Idealize.ShloMosaic Idealize.SL.Sem Cert.Kernel

attribute [local instance] Cert.KernelIdeal.Gen.facts Cert.ReferenceIdeal.Gen.facts Cert.Pre_no_tie.Gen.facts

/-- The reference ends with its arguments unchanged, and it has no semaphores. -/
theorem reference_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩
      (fun r => (∀ c : Dev Cert.ReferenceIdeal.nD,
        r.2.mem ((c.tc : Thread Cert.ReferenceIdeal.nD Cert.ReferenceIdeal.τ).loc Cert.ReferenceIdeal.main_arg0)
            = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
            = m ((c.tc : Thread Cert.ReferenceIdeal.nD Cert.ReferenceIdeal.τ).loc Cert.ReferenceIdeal.main_arg1))
      ∧ r.2.sem = fun _ => 0) :=
  θ_run_mono (Cert.VQ.ref_run m g) fun r h => ⟨fun c => (h c).2.2, sem_eq_zero_of_no_sems (by decide) r.2⟩

/-- The kernel and the reference end with the same two results over the extended reals. -/
theorem algebraic : Cert.algebraic_KernelIdeal_ReferenceIdeal_pre_no_tie := by
  pair_intro
  · run_from Cert.KernelIdeal.Gen.run_main m g
    · exact Cert.VQ.tail_arg0 m c
    · exact Cert.VQ.tail_arg1 m c
  · refine θ_run_mono (Cert.VQ.ref_run m' g') fun r h c => ?_
    obtain ⟨h34, h32, h0, h1⟩ := h c
    obtain ⟨a0, a1⟩ := hagree c
    rw [a0, a1] at h34 h32
    exact ⟨h34.trans (Cert.VQ.first_eq m c (hpre c)), h32.trans (Cert.VQ.second_eq m c (hpre c)), h0, h1⟩

/-- All the claims. -/
theorem claim : Cert.Claim := ⟨Cert.Kernel.Gen.facts, Cert.KernelIdeal.Gen.facts, Cert.ReferenceIdeal.Gen.facts, Cert.Pre_no_tie.Gen.facts,
  fun m g _ => Cert.Kernel.Gen.frame m g,
  fun m g _ => Cert.KernelIdeal.Gen.frame m g,
  fun m g _ => Cert.KernelIdeal.Gen.frame m g,
  fun m g _ => reference_frame m g,
  fun m g _ => reference_frame m g,
  trivial,
  algebraic⟩

end Cert.Proof

end
